-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4x1024 : Shape := ⟨3, ![32, 4, 1024]⟩
abbrev S32x4x128 : Shape := ⟨3, ![32, 4, 128]⟩
abbrev S32 : Shape := ⟨1, ![32]⟩
abbrev S100000x4x128 : Shape := ⟨3, ![100000, 4, 128]⟩
abbrev S100000x4 : Shape := ⟨2, ![100000, 4]⟩
abbrev S32x1 : Shape := ⟨2, ![32, 1]⟩
abbrev S1x1 : Shape := ⟨2, ![1, 1]⟩
abbrev S32x1x1024 : Shape := ⟨3, ![32, 1, 1024]⟩
abbrev S32x3x1024 : Shape := ⟨3, ![32, 3, 1024]⟩
abbrev S32x3 : Shape := ⟨2, ![32, 3]⟩
abbrev S32x4 : Shape := ⟨2, ![32, 4]⟩
abbrev S32x4x1 : Shape := ⟨3, ![32, 4, 1]⟩
abbrev S32x1x128 : Shape := ⟨3, ![32, 1, 128]⟩
abbrev S32x3x128 : Shape := ⟨3, ![32, 3, 128]⟩
abbrev S1x32x3 : Shape := ⟨3, ![1, 32, 3]⟩
abbrev S1 : Shape := ⟨1, ![1]⟩
abbrev S1x1x1 : Shape := ⟨3, ![1, 1, 1]⟩
abbrev S1x32 : Shape := ⟨2, ![1, 32]⟩
abbrev S32x32 : Shape := ⟨2, ![32, 32]⟩
abbrev S32x128 : Shape := ⟨2, ![32, 128]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S32x4x1024, .f32⟩
  | .hbm, ⟨1, _⟩ => ⟨S32x4x128, .f32⟩
  | .hbm, ⟨2, _⟩ => ⟨S32, .i32⟩
  | .hbm, ⟨3, _⟩ => ⟨S100000x4x128, .f32⟩
  | .hbm, ⟨4, _⟩ => ⟨S100000x4, .f32⟩
  | .hbm, ⟨5, _⟩ => ⟨S32x1, .i32⟩
  | .hbm, ⟨6, _⟩ => ⟨S1x1, .f32⟩
  | .hbm, ⟨7, _⟩ => ⟨S_, .f32⟩
  | .local _ .vmem, ⟨0, _⟩ => ⟨S32x4x1024, .f32⟩
  | .local _ .vmem, ⟨1, _⟩ => ⟨S32x4x128, .f32⟩
  | .local _ .vmem, ⟨2, _⟩ => ⟨S32x1, .i32⟩
  | .local _ .vmem, ⟨3, _⟩ => ⟨S1x1, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x4x1024 : Shape := ⟨3, ![32, 4, 1024]⟩
abbrev S32x4x128 : Shape := ⟨3, ![32, 4, 128]⟩
abbrev S32 : Shape := ⟨1, ![32]⟩
abbrev S100000x4x128 : Shape := ⟨3, ![100000, 4, 128]⟩
abbrev S100000x4 : Shape := ⟨2, ![100000, 4]⟩
abbrev S_ : Shape := ⟨0, ![]⟩
abbrev S1 : Shape := ⟨1, ![1]⟩
abbrev S1x4 : Shape := ⟨2, ![1, 4]⟩
abbrev S4 : Shape := ⟨1, ![4]⟩
abbrev S1x1x128 : Shape := ⟨3, ![1, 1, 128]⟩
abbrev S128 : Shape := ⟨1, ![128]⟩
abbrev S2 : Shape := ⟨1, ![2]⟩
abbrev S32x1x1024 : Shape := ⟨3, ![32, 1, 1024]⟩
abbrev S32x1024 : Shape := ⟨2, ![32, 1024]⟩
abbrev S32x3x1024 : Shape := ⟨3, ![32, 3, 1024]⟩
abbrev S32x1x128 : Shape := ⟨3, ![32, 1, 128]⟩
abbrev S32x128 : Shape := ⟨2, ![32, 128]⟩
abbrev S32x3x128 : Shape := ⟨3, ![32, 3, 128]⟩
abbrev S32x3 : Shape := ⟨2, ![32, 3]⟩
abbrev S32x1 : Shape := ⟨2, ![32, 1]⟩
abbrev S32x3x1 : Shape := ⟨3, ![32, 3, 1]⟩
abbrev S1x4x128 : Shape := ⟨3, ![1, 4, 128]⟩
abbrev S4x128 : Shape := ⟨2, ![4, 128]⟩

abbrev nBuf : Space → Nat
  | .hbm => 222
  | .vmem => 0
  | .smem => 0
  | _ => 0

abbrev hbmTy0_0 (i : Nat) : BufTy := match i % 128 with
  | 0 => ⟨S32x4x1024, .f32⟩
  | 1 => ⟨S32x4x128, .f32⟩
  | 2 => ⟨S32, .i32⟩
  | 3 => ⟨S100000x4x128, .f32⟩
  | 4 => ⟨S100000x4, .f32⟩
  | 5 => ⟨S32, .i32⟩
  | 6 => ⟨S_, .i32⟩
  | 7 => ⟨S32, .i32⟩
  | 8 => ⟨S32, .i32⟩
  | 9 => ⟨S32x4x128, .f32⟩
  | 10 => ⟨S_, .i32⟩
  | 11 => ⟨S100000x4x128, .f32⟩
  | 12 => ⟨S100000x4, .f32⟩
  | 13 => ⟨S_, .i32⟩
  | 14 => ⟨S_, .i1⟩
  | 15 => ⟨S1, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x4, .f32⟩
  | 38 => ⟨S4, .f32⟩
  | 39 => ⟨S4, .i32⟩
  | 40 => ⟨S_, .f32⟩
  | 41 => ⟨S_, .i32⟩
  | 42 => ⟨S_, .f32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x1x128, .f32⟩
  | 66 => ⟨S128, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S1, .i32⟩
  | 78 => ⟨S1, .i32⟩
  | 79 => ⟨S2, .i32⟩
  | 80 => ⟨S100000x4x128, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S1, .i32⟩
  | 92 => ⟨S1, .i32⟩
  | 93 => ⟨S2, .i32⟩
  | 94 => ⟨S_, .f32⟩
  | 95 => ⟨S100000x4, .f32⟩
  | 96 => ⟨S_, .i32⟩
  | 97 => ⟨S_, .i32⟩
  | 98 => ⟨S_, .f32⟩
  | 99 => ⟨S100000x4, .f32⟩
  | 100 => ⟨S100000x4, .f32⟩
  | 101 => ⟨S32x1x1024, .f32⟩
  | 102 => ⟨S32x1024, .f32⟩
  | 103 => ⟨S32x3x1024, .f32⟩
  | 104 => ⟨S32x1x128, .f32⟩
  | 105 => ⟨S32x128, .f32⟩
  | 106 => ⟨S32x3x128, .f32⟩
  | 107 => ⟨S32x1x1024, .f32⟩
  | 108 => ⟨S32x3x1024, .f32⟩
  | 109 => ⟨S32x3x1024, .f32⟩
  | 110 => ⟨S32x3x1024, .f32⟩
  | 111 => ⟨S_, .f32⟩
  | 112 => ⟨S32x3, .f32⟩
  | 113 => ⟨S32x3, .f32⟩
  | 114 => ⟨S32x128, .f32⟩
  | 115 => ⟨S_, .f32⟩
  | 116 => ⟨S32, .f32⟩
  | 117 => ⟨S32, .f32⟩
  | 118 => ⟨S32x3x128, .f32⟩
  | 119 => ⟨S_, .f32⟩
  | 120 => ⟨S32x3, .f32⟩
  | 121 => ⟨S32x3, .f32⟩
  | 122 => ⟨S32x1, .f32⟩
  | 123 => ⟨S32x128, .f32⟩
  | 124 => ⟨S32x128, .f32⟩
  | 125 => ⟨S32x3x1, .f32⟩
  | 126 => ⟨S32x3x128, .f32⟩
  | 127 => ⟨S32x3x128, .f32⟩
  | _ => ⟨S32x4x1024, .f32⟩

abbrev hbmTy0_1 (i : Nat) : BufTy := match i % 128 with
  | 0 => ⟨S32x1x128, .f32⟩
  | 1 => ⟨S32x3x128, .f32⟩
  | 2 => ⟨S32x3x128, .f32⟩
  | 3 => ⟨S_, .f32⟩
  | 4 => ⟨S32x3, .f32⟩
  | 5 => ⟨S32x1x128, .f32⟩
  | 6 => ⟨S_, .f32⟩
  | 7 => ⟨S32x1, .f32⟩
  | 8 => ⟨S32x1, .f32⟩
  | 9 => ⟨S32x3x128, .f32⟩
  | 10 => ⟨S_, .f32⟩
  | 11 => ⟨S32x3, .f32⟩
  | 12 => ⟨S32x3, .f32⟩
  | 13 => ⟨S32x3, .f32⟩
  | 14 => ⟨S32x3, .f32⟩
  | 15 => ⟨S_, .f32⟩
  | 16 => ⟨S32x3, .f32⟩
  | 17 => ⟨S32x3, .f32⟩
  | 18 => ⟨S32x3, .f32⟩
  | 19 => ⟨S_, .f32⟩
  | 20 => ⟨S32x3, .f32⟩
  | 21 => ⟨S32x3, .f32⟩
  | 22 => ⟨S32x3, .f32⟩
  | 23 => ⟨S_, .f32⟩
  | 24 => ⟨S32x3, .f32⟩
  | 25 => ⟨S32x3, .f32⟩
  | 26 => ⟨S_, .f32⟩
  | 27 => ⟨S32x3, .f32⟩
  | 28 => ⟨S32x3, .f32⟩
  | 29 => ⟨S32x1x1024, .f32⟩
  | 30 => ⟨S32x3x1024, .f32⟩
  | 31 => ⟨S32x3x1024, .i1⟩
  | 32 => ⟨S_, .i1⟩
  | 33 => ⟨S32x3, .i1⟩
  | 34 => ⟨S_, .f32⟩
  | 35 => ⟨S_, .f32⟩
  | 36 => ⟨S32x3, .f32⟩
  | 37 => ⟨S32x3, .f32⟩
  | 38 => ⟨S_, .f32⟩
  | 39 => ⟨S_, .f32⟩
  | 40 => ⟨S_, .f32⟩
  | 41 => ⟨S_, .f32⟩
  | 42 => ⟨S1, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x4x128, .f32⟩
  | 66 => ⟨S4x128, .f32⟩
  | 67 => ⟨S_, .f32⟩
  | 68 => ⟨S_, .f32⟩
  | 69 => ⟨S_, .f32⟩
  | 70 => ⟨S_, .f32⟩
  | 71 => ⟨S_, .f32⟩
  | 72 => ⟨S1, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S1x4, .f32⟩
  | 88 => ⟨S4, .f32⟩
  | 89 => ⟨S_, .f32⟩
  | 90 => ⟨S_, .f32⟩
  | 91 => ⟨S_, .f32⟩
  | 92 => ⟨S_, .f32⟩
  | 93 => ⟨S_, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_while0c_c_38 : Ref sig .tc := ⟨.hbm, 13, rfl⟩
abbrev main_while0c_v78 : Ref sig .tc := ⟨.hbm, 14, rfl⟩
abbrev main_while0b_call0_v0 : Ref sig .tc := ⟨.hbm, 15, rfl⟩
abbrev main_while0b_v78 : Ref sig .tc := ⟨.hbm, 16, rfl⟩
abbrev main_while0b_c_38 : Ref sig .tc := ⟨.hbm, 17, rfl⟩
abbrev main_while0b_v79 : Ref sig .tc := ⟨.hbm, 18, rfl⟩
abbrev main_while0b_c_39 : Ref sig .tc := ⟨.hbm, 19, rfl⟩
abbrev main_while0b_v80 : Ref sig .tc := ⟨.hbm, 20, rfl⟩
abbrev main_while0b_v81 : Ref sig .tc := ⟨.hbm, 21, rfl⟩
abbrev main_while0b_v82 : Ref sig .tc := ⟨.hbm, 22, rfl⟩
abbrev main_while0b_v83 : Ref sig .tc := ⟨.hbm, 23, rfl⟩
abbrev main_while0b_c_40 : Ref sig .tc := ⟨.hbm, 24, rfl⟩
abbrev main_while0b_v84 : Ref sig .tc := ⟨.hbm, 25, rfl⟩
abbrev main_while0b_c_41 : Ref sig .tc := ⟨.hbm, 26, rfl⟩
abbrev main_while0b_v85 : Ref sig .tc := ⟨.hbm, 27, rfl⟩
abbrev main_while0b_v86 : Ref sig .tc := ⟨.hbm, 28, rfl⟩
abbrev main_while0b_c_42 : Ref sig .tc := ⟨.hbm, 29, rfl⟩
abbrev main_while0b_c_43 : Ref sig .tc := ⟨.hbm, 30, rfl⟩
abbrev main_while0b_v87 : Ref sig .tc := ⟨.hbm, 31, rfl⟩
abbrev main_while0b_c_44 : Ref sig .tc := ⟨.hbm, 32, rfl⟩
abbrev main_while0b_c_45 : Ref sig .tc := ⟨.hbm, 33, rfl⟩
abbrev main_while0b_v88 : Ref sig .tc := ⟨.hbm, 34, rfl⟩
abbrev main_while0b_c_46 : Ref sig .tc := ⟨.hbm, 35, rfl⟩
abbrev main_while0b_v89 : Ref sig .tc := ⟨.hbm, 36, rfl⟩
abbrev main_while0b_v90 : Ref sig .tc := ⟨.hbm, 37, rfl⟩
abbrev main_while0b_v91 : Ref sig .tc := ⟨.hbm, 38, rfl⟩
abbrev main_while0b_call1_v0 : Ref sig .tc := ⟨.hbm, 39, rfl⟩
abbrev main_while0b_call1_cst : Ref sig .tc := ⟨.hbm, 40, rfl⟩
abbrev main_while0b_call1_c : Ref sig .tc := ⟨.hbm, 41, rfl⟩
abbrev main_while0b_call1_v1_0 : Ref sig .tc := ⟨.hbm, 42, rfl⟩
abbrev main_while0b_v92 : Ref sig .tc := ⟨.hbm, 43, rfl⟩
abbrev main_while0b_c_47 : Ref sig .tc := ⟨.hbm, 44, rfl⟩
abbrev main_while0b_v93 : Ref sig .tc := ⟨.hbm, 45, rfl⟩
abbrev main_while0b_c_48 : Ref sig .tc := ⟨.hbm, 46, rfl⟩
abbrev main_while0b_v94 : Ref sig .tc := ⟨.hbm, 47, rfl⟩
abbrev main_while0b_v95 : Ref sig .tc := ⟨.hbm, 48, rfl⟩
abbrev main_while0b_c_49 : Ref sig .tc := ⟨.hbm, 49, rfl⟩
abbrev main_while0b_c_50 : Ref sig .tc := ⟨.hbm, 50, rfl⟩
abbrev main_while0b_v96 : Ref sig .tc := ⟨.hbm, 51, rfl⟩
abbrev main_while0b_c_51 : Ref sig .tc := ⟨.hbm, 52, rfl⟩
abbrev main_while0b_c_52 : Ref sig .tc := ⟨.hbm, 53, rfl⟩
abbrev main_while0b_v97 : Ref sig .tc := ⟨.hbm, 54, rfl⟩
abbrev main_while0b_c_53 : Ref sig .tc := ⟨.hbm, 55, rfl⟩
abbrev main_while0b_v98 : Ref sig .tc := ⟨.hbm, 56, rfl⟩
abbrev main_while0b_c_54 : Ref sig .tc := ⟨.hbm, 57, rfl⟩
abbrev main_while0b_c_55 : Ref sig .tc := ⟨.hbm, 58, rfl⟩
abbrev main_while0b_v99 : Ref sig .tc := ⟨.hbm, 59, rfl⟩
abbrev main_while0b_c_56 : Ref sig .tc := ⟨.hbm, 60, rfl⟩
abbrev main_while0b_c_57 : Ref sig .tc := ⟨.hbm, 61, rfl⟩
abbrev main_while0b_v100 : Ref sig .tc := ⟨.hbm, 62, rfl⟩
abbrev main_while0b_c_58 : Ref sig .tc := ⟨.hbm, 63, rfl⟩
abbrev main_while0b_v101 : Ref sig .tc := ⟨.hbm, 64, rfl⟩
abbrev main_while0b_v102 : Ref sig .tc := ⟨.hbm, 65, rfl⟩
abbrev main_while0b_v103 : Ref sig .tc := ⟨.hbm, 66, rfl⟩
abbrev main_while0b_c_59 : Ref sig .tc := ⟨.hbm, 67, rfl⟩
abbrev main_while0b_v104 : Ref sig .tc := ⟨.hbm, 68, rfl⟩
abbrev main_while0b_c_60 : Ref sig .tc := ⟨.hbm, 69, rfl⟩
abbrev main_while0b_v105 : Ref sig .tc := ⟨.hbm, 70, rfl⟩
abbrev main_while0b_v106 : Ref sig .tc := ⟨.hbm, 71, rfl⟩
abbrev main_while0b_c_61 : Ref sig .tc := ⟨.hbm, 72, rfl⟩
abbrev main_while0b_v107 : Ref sig .tc := ⟨.hbm, 73, rfl⟩
abbrev main_while0b_c_62 : Ref sig .tc := ⟨.hbm, 74, rfl⟩
abbrev main_while0b_v108 : Ref sig .tc := ⟨.hbm, 75, rfl⟩
abbrev main_while0b_v109 : Ref sig .tc := ⟨.hbm, 76, rfl⟩
abbrev main_while0b_v110 : Ref sig .tc := ⟨.hbm, 77, rfl⟩
abbrev main_while0b_v111 : Ref sig .tc := ⟨.hbm, 78, rfl⟩
abbrev main_while0b_v112 : Ref sig .tc := ⟨.hbm, 79, rfl⟩
abbrev main_while0b_v113 : Ref sig .tc := ⟨.hbm, 80, rfl⟩
abbrev main_while0b_c_63 : Ref sig .tc := ⟨.hbm, 81, rfl⟩
abbrev main_while0b_v114 : Ref sig .tc := ⟨.hbm, 82, rfl⟩
abbrev main_while0b_c_64 : Ref sig .tc := ⟨.hbm, 83, rfl⟩
abbrev main_while0b_v115 : Ref sig .tc := ⟨.hbm, 84, rfl⟩
abbrev main_while0b_v116 : Ref sig .tc := ⟨.hbm, 85, rfl⟩
abbrev main_while0b_c_65 : Ref sig .tc := ⟨.hbm, 86, rfl⟩
abbrev main_while0b_v117 : Ref sig .tc := ⟨.hbm, 87, rfl⟩
abbrev main_while0b_c_66 : Ref sig .tc := ⟨.hbm, 88, rfl⟩
abbrev main_while0b_v118 : Ref sig .tc := ⟨.hbm, 89, rfl⟩
abbrev main_while0b_v119 : Ref sig .tc := ⟨.hbm, 90, rfl⟩
abbrev main_while0b_v120 : Ref sig .tc := ⟨.hbm, 91, rfl⟩
abbrev main_while0b_v121 : Ref sig .tc := ⟨.hbm, 92, rfl⟩
abbrev main_while0b_v122 : Ref sig .tc := ⟨.hbm, 93, rfl⟩
abbrev main_while0b_cst_67 : Ref sig .tc := ⟨.hbm, 94, rfl⟩
abbrev main_while0b_v123 : Ref sig .tc := ⟨.hbm, 95, rfl⟩
abbrev main_while0b_c_68 : Ref sig .tc := ⟨.hbm, 96, rfl⟩
abbrev main_while0b_v124 : Ref sig .tc := ⟨.hbm, 97, rfl⟩
abbrev main_cst : Ref sig .tc := ⟨.hbm, 98, rfl⟩
abbrev main_v2 : Ref sig .tc := ⟨.hbm, 99, rfl⟩
abbrev main_v3 : Ref sig .tc := ⟨.hbm, 100, rfl⟩
abbrev main_v4 : Ref sig .tc := ⟨.hbm, 101, rfl⟩
abbrev main_v5 : Ref sig .tc := ⟨.hbm, 102, rfl⟩
abbrev main_v6 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_cst_0 : Ref sig .tc := ⟨.hbm, 111, rfl⟩
abbrev main_v14 : Ref sig .tc := ⟨.hbm, 112, rfl⟩
abbrev main_v15 : Ref sig .tc := ⟨.hbm, 113, rfl⟩
abbrev main_call2_v0 : Ref sig .tc := ⟨.hbm, 114, rfl⟩
abbrev main_call2_cst : Ref sig .tc := ⟨.hbm, 115, rfl⟩
abbrev main_call2_v1 : Ref sig .tc := ⟨.hbm, 116, rfl⟩
abbrev main_v16 : Ref sig .tc := ⟨.hbm, 117, rfl⟩
abbrev main_call3_v0 : Ref sig .tc := ⟨.hbm, 118, rfl⟩
abbrev main_call3_cst : Ref sig .tc := ⟨.hbm, 119, rfl⟩
abbrev main_call3_v1 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_cst_1 : Ref sig .tc := ⟨.hbm, 131, rfl⟩
abbrev main_v27 : Ref sig .tc := ⟨.hbm, 132, rfl⟩
abbrev main_call4_v0 : Ref sig .tc := ⟨.hbm, 133, rfl⟩
abbrev main_call4_cst : Ref sig .tc := ⟨.hbm, 134, rfl⟩
abbrev main_call4_v1 : Ref sig .tc := ⟨.hbm, 135, rfl⟩
abbrev main_v28 : Ref sig .tc := ⟨.hbm, 136, rfl⟩
abbrev main_call5_v0 : Ref sig .tc := ⟨.hbm, 137, rfl⟩
abbrev main_call5_cst : Ref sig .tc := ⟨.hbm, 138, rfl⟩
abbrev main_call5_v1 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_cst_2 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_cst_3 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_cst_4 : Ref sig .tc := ⟨.hbm, 151, rfl⟩
abbrev main_v38 : Ref sig .tc := ⟨.hbm, 152, rfl⟩
abbrev main_v39 : Ref sig .tc := ⟨.hbm, 153, rfl⟩
abbrev main_cst_5 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_c_6 : Ref sig .tc := ⟨.hbm, 160, rfl⟩
abbrev main_v45 : Ref sig .tc := ⟨.hbm, 161, rfl⟩
abbrev main_cst_7 : Ref sig .tc := ⟨.hbm, 162, rfl⟩
abbrev main_call6_v0 : Ref sig .tc := ⟨.hbm, 163, rfl⟩
abbrev main_call6_v1 : Ref sig .tc := ⟨.hbm, 164, rfl⟩
abbrev main_v46 : Ref sig .tc := ⟨.hbm, 165, rfl⟩
abbrev main_cst_8 : Ref sig .tc := ⟨.hbm, 166, rfl⟩
abbrev main_v47 : Ref sig .tc := ⟨.hbm, 167, rfl⟩
abbrev main_cst_9 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_c_10 : Ref sig .tc := ⟨.hbm, 172, rfl⟩
abbrev main_v51 : Ref sig .tc := ⟨.hbm, 173, rfl⟩
abbrev main_c_11 : Ref sig .tc := ⟨.hbm, 174, rfl⟩
abbrev main_v52 : Ref sig .tc := ⟨.hbm, 175, rfl⟩
abbrev main_v53 : Ref sig .tc := ⟨.hbm, 176, rfl⟩
abbrev main_c_12 : Ref sig .tc := ⟨.hbm, 177, rfl⟩
abbrev main_c_13 : Ref sig .tc := ⟨.hbm, 178, rfl⟩
abbrev main_v54 : Ref sig .tc := ⟨.hbm, 179, rfl⟩
abbrev main_c_14 : Ref sig .tc := ⟨.hbm, 180, rfl⟩
abbrev main_c_15 : Ref sig .tc := ⟨.hbm, 181, rfl⟩
abbrev main_v55 : Ref sig .tc := ⟨.hbm, 182, rfl⟩
abbrev main_c_16 : Ref sig .tc := ⟨.hbm, 183, rfl⟩
abbrev main_v56 : Ref sig .tc := ⟨.hbm, 184, rfl⟩
abbrev main_c_17 : Ref sig .tc := ⟨.hbm, 185, rfl⟩
abbrev main_c_18 : Ref sig .tc := ⟨.hbm, 186, rfl⟩
abbrev main_v57 : Ref sig .tc := ⟨.hbm, 187, rfl⟩
abbrev main_c_19 : Ref sig .tc := ⟨.hbm, 188, rfl⟩
abbrev main_c_20 : Ref sig .tc := ⟨.hbm, 189, rfl⟩
abbrev main_v58 : Ref sig .tc := ⟨.hbm, 190, rfl⟩
abbrev main_c_21 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_cst_22 : Ref sig .tc := ⟨.hbm, 195, rfl⟩
abbrev main_v62 : Ref sig .tc := ⟨.hbm, 196, rfl⟩
abbrev main_cst_23 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_c_24 : Ref sig .tc := ⟨.hbm, 202, rfl⟩
abbrev main_v67 : Ref sig .tc := ⟨.hbm, 203, rfl⟩
abbrev main_c_25 : Ref sig .tc := ⟨.hbm, 204, rfl⟩
abbrev main_v68 : Ref sig .tc := ⟨.hbm, 205, rfl⟩
abbrev main_v69 : Ref sig .tc := ⟨.hbm, 206, rfl⟩
abbrev main_c_26 : Ref sig .tc := ⟨.hbm, 207, rfl⟩
abbrev main_c_27 : Ref sig .tc := ⟨.hbm, 208, rfl⟩
abbrev main_v70 : Ref sig .tc := ⟨.hbm, 209, rfl⟩
abbrev main_c_28 : Ref sig .tc := ⟨.hbm, 210, rfl⟩
abbrev main_c_29 : Ref sig .tc := ⟨.hbm, 211, rfl⟩
abbrev main_v71 : Ref sig .tc := ⟨.hbm, 212, rfl⟩
abbrev main_c_30 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_cst_31 : Ref sig .tc := ⟨.hbm, 217, rfl⟩
abbrev main_v75 : Ref sig .tc := ⟨.hbm, 218, rfl⟩
abbrev main_cst_32 : Ref sig .tc := ⟨.hbm, 219, rfl⟩
abbrev main_v76 : Ref sig .tc := ⟨.hbm, 220, rfl⟩
abbrev main_v77 : Ref sig .tc := ⟨.hbm, 221, rfl⟩

abbrev nD : Nat := 1
abbrev τ : Topo := Topo.v7x

variable {F : FTy → Type} [FloatOps F]

abbrev main_while0_count : Scf.Loop 32 := ⟨0#32, 32#32, 1#32⟩
-- ==== Proof.RefOps.lean ====
/-
  The reference program as lists of host operations: one stretch before its loop (`preOps`), the stretches of the loop's
  body (`bodyOps`), and the stretches after the loop (`postOps`); then `main_chain` and `body_chain`: @main and the loop's
  body are the chains of these stretches.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2048

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- A stretch of 8 host operations, in order. -/
abbrev preOps0 : List (HloOp τ sig (Elt F)) :=
  [ StableHlo.nullary main_v0 (iotaInDim S32 32 0),
    StableHlo.nullary main_c (constantI S_ 32 0#32),
    StableHlo.unary main_v0 main_v1_0 id,
    StableHlo.unary main_arg2 main_v1_1 id,
    StableHlo.unary main_arg1 main_v1_2 id,
    StableHlo.unary main_c main_v1_3 id,
    StableHlo.unary main_arg3 main_v1_4 id,
    StableHlo.unary main_arg4 main_v1_5 id ]
/-- Every operation of `preOps0` touches TensorCore references only. -/
theorem preOps0_sub : (preOps0 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- No operation of `preOps0` allocates a buffer. -/
theorem preOps0_fresh : (preOps0 : List (HloOp τ sig (Elt F))).Forall fun op => op.fresh = ∅ :=
  StableHlo.forall_fresh_of_map rfl
/-- The buffers the operations of `preOps0` write, in order. -/
abbrev preOps0_W : List (Ref sig .tc) := [main_v0, main_c, main_v1_0, main_v1_1, main_v1_2, main_v1_3, main_v1_4, main_v1_5]
/-- `preOps0_W` holds every buffer `preOps0` writes. -/
theorem preOps0_writes : (preOps0 : List (HloOp τ sig (Elt F))).Forall fun op => op.writes ⊆ (preOps0_W.map (Proc.devRef (τ := τ) .tc)).toFinset :=
  StableHlo.forall_writes_sub_of_map rfl

/-- A stretch of 16 host operations, in order. -/
abbrev postOps0 : List (HloOp τ sig (Elt F)) :=
  [ StableHlo.nullary main_cst (constant S_ .f32 0x3F800000#32),
    StableHlo.unary main_cst main_v2 (broadcastInDim S100000x4 ![] bcast_S_S100000x4 : (⟨S_, .f32⟩ : BufTy).Contents (Elt F) → (⟨S100000x4, .f32⟩ : BufTy).Contents (Elt F)),
    StableHlo.binary main_v1_5 main_v2 main_v3 (subf : (⟨S100000x4, .f32⟩ : BufTy).Contents (Elt F) → (⟨S100000x4, .f32⟩ : BufTy).Contents (Elt F) → (⟨S100000x4, .f32⟩ : BufTy).Contents (Elt F)),
    StableHlo.unary main_arg0 main_v4 ((extractStridedSlice S32x1x1024 ![0, 0, 0] · slices_S32x4x1024_S32x1x1024_0_0_0) : (⟨S32x4x1024, .f32⟩ : BufTy).Contents (Elt F) → (⟨S32x1x1024, .f32⟩ : BufTy).Contents (Elt F)),
    StableHlo.reshape main_v4 main_v5 (rfl : (.f32 : EltTy) = .f32) shapeCasts_S32x1x1024_S32x1024,
    StableHlo.unary main_arg0 main_v6 ((extractStridedSlice S32x3x1024 ![0, 1, 0] · slices_S32x4x1024_S32x3x1024_0_1_0) : (⟨S32x4x1024, .f32⟩ : BufTy).Contents (Elt F) → (⟨S32x3x1024, .f32⟩ : BufTy).Contents (Elt F)),
    StableHlo.unary main_arg1 main_v7 ((extractStridedSlice S32x1x128 ![0, 0, 0] · slices_S32x4x128_S32x1x128_0_0_0) : (⟨S32x4x128, .f32⟩ : BufTy).Contents (Elt F) → (⟨S32x1x128, .f32⟩ : BufTy).Contents (Elt F)),
    StableHlo.reshape main_v7 main_v8 (rfl : (.f32 : EltTy) = .f32) shapeCasts_S32x1x128_S32x128,
    StableHlo.unary main_arg1 main_v9 ((extractStridedSlice S32x3x128 ![0, 1, 0] · slices_S32x4x128_S32x3x128_0_1_0) : (⟨S32x4x128, .f32⟩ : BufTy).Contents (Elt F) → (⟨S32x3x128, .f32⟩ : BufTy).Contents (Elt F)),
    StableHlo.unary main_v5 main_v10 (broadcastInDim S32x1x1024 ![0, 2] bcast_S32x1024_S32x1x1024_0_2 : (⟨S32x1024, .f32⟩ : BufTy).Contents (Elt F) → (⟨S32x1x1024, .f32⟩ : BufTy).Contents (Elt F)),
    StableHlo.unary main_v10 main_v11 (broadcastInDim S32x3x1024 ![0, 1, 2] bcast_S32x1x1024_S32x3x1024_0_1_2 : (⟨S32x1x1024, .f32⟩ : BufTy).Contents (Elt F) → (⟨S32x3x1024, .f32⟩ : BufTy).Contents (Elt F)),
    StableHlo.binary main_v6 main_v11 main_v12 (subf : (⟨S32x3x1024, .f32⟩ : BufTy).Contents (Elt F) → (⟨S32x3x1024, .f32⟩ : BufTy).Contents (Elt F) → (⟨S32x3x1024, .f32⟩ : BufTy).Contents (Elt F)),
    StableHlo.binary main_v12 main_v12 main_v13 (mulf : (⟨S32x3x1024, .f32⟩ : BufTy).Contents (Elt F) → (⟨S32x3x1024, .f32⟩ : BufTy).Contents (Elt F) → (⟨S32x3x1024, .f32⟩ : BufTy).Contents (Elt F)),
    StableHlo.nullary main_cst_0 (constant S_ .f32 0x00000000#32),
    StableHlo.binary main_v13 main_cst_0 main_v14 ((fun x v => Host.reduceAdd x v reducesTo_S32x3x1024_S32x3_d2 h_S_) : (⟨S32x3x1024, .f32⟩ : BufTy).Contents (Elt F) → (⟨S_, .f32⟩ : BufTy).Contents (Elt F) → (⟨S32x3, .f32⟩ : BufTy).Contents (Elt F)),
    StableHlo.unary main_v14 main_v15 (Host.sqrt : (⟨S32x3, .f32⟩ : BufTy).Contents (Elt F) → (⟨S32x3, .f32⟩ : BufTy).Contents (Elt F)) ]
/-- Every operation of `postOps0` touches TensorCore references only. -/
theorem postOps0_sub : (postOps0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub ..⟩
/-- No operation of `postOps0` allocates a buffer. -/
theorem postOps0_fresh : (postOps0 : List (HloOp τ sig (Elt F))).Forall fun op => op.fresh = ∅ :=
  StableHlo.forall_fresh_of_map rfl
/-- The buffers the operations of `postOps0` write, in order. -/
abbrev postOps0_W : List (Ref sig .tc) := [main_cst, main_v2, main_v3, main_v4, main_v5, main_v6, main_v7, main_v8, main_v9, main_v10, main_v11, main_v12, main_v13, main_cst_0, main_v14, main_v15]
/-- `postOps0_W` holds every buffer `postOps0` writes. -/
theorem postOps0_writes : (postOps0 : List (HloOp τ sig (Elt F))).Forall fun op => op.writes ⊆ (postOps0_W.map (Proc.devRef (τ := τ) .tc)).toFinset :=
  StableHlo.forall_writes_sub_of_map rfl

/-- The operations of the call of @norm, in order. -/
abbrev postOps1 : List (HloOp τ sig (Elt F)) :=
  [ StableHlo.TRef.binary (.of main_v8 : StableHlo.TRef sig ⟨S32x128, .f32⟩) (.of main_v8 : StableHlo.TRef sig ⟨S32x128, .f32⟩) (.of main_call2_v0 : StableHlo.TRef sig ⟨S32x128, .f32⟩) mulf,
    StableHlo.TRef.nullary (.of main_call2_cst : StableHlo.TRef sig ⟨S_, .f32⟩) (constant S_ .f32 0x00000000#32),
    StableHlo.TRef.binary (.of main_call2_v0 : StableHlo.TRef sig ⟨S32x128, .f32⟩) (.of main_call2_cst : StableHlo.TRef sig ⟨S_, .f32⟩) (.of main_call2_v1 : StableHlo.TRef sig ⟨S32, .f32⟩) (fun x v => Host.reduceAdd x v reducesTo_S32x128_S32_d1 h_S_),
    StableHlo.TRef.unary (.of main_call2_v1 : StableHlo.TRef sig ⟨S32, .f32⟩) (.of main_v16 : StableHlo.TRef sig ⟨S32, .f32⟩) Host.sqrt ]
/-- Every operation of `postOps1` touches TensorCore references only. -/
theorem postOps1_sub : (postOps1 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- No operation of `postOps1` allocates a buffer. -/
theorem postOps1_fresh : (postOps1 : List (HloOp τ sig (Elt F))).Forall fun op => op.fresh = ∅ :=
  StableHlo.forall_fresh_of_map rfl
/-- The buffers the operations of `postOps1` write, in order. -/
abbrev postOps1_W : List (Ref sig .tc) := [main_call2_v0, main_call2_cst, main_call2_v1, main_v16]
/-- `postOps1_W` holds every buffer `postOps1` writes. -/
theorem postOps1_writes : (postOps1 : List (HloOp τ sig (Elt F))).Forall fun op => op.writes ⊆ (postOps1_W.map (Proc.devRef (τ := τ) .tc)).toFinset :=
  StableHlo.forall_writes_sub_of_map rfl

/-- The operations of the call of @norm_0, in order. -/
abbrev postOps2 : List (HloOp τ sig (Elt F)) :=
  [ StableHlo.TRef.binary (.of main_v9 : StableHlo.TRef sig ⟨S32x3x128, .f32⟩) (.of main_v9 : StableHlo.TRef sig ⟨S32x3x128, .f32⟩) (.of main_call3_v0 : StableHlo.TRef sig ⟨S32x3x128, .f32⟩) mulf,
    StableHlo.TRef.nullary (.of main_call3_cst : StableHlo.TRef sig ⟨S_, .f32⟩) (constant S_ .f32 0x00000000#32),
    StableHlo.TRef.binary (.of main_call3_v0 : StableHlo.TRef sig ⟨S32x3x128, .f32⟩) (.of main_call3_cst : StableHlo.TRef sig ⟨S_, .f32⟩) (.of main_call3_v1 : StableHlo.TRef sig ⟨S32x3, .f32⟩) (fun x v => Host.reduceAdd x v reducesTo_S32x3x128_S32x3_d2 h_S_),
    StableHlo.TRef.unary (.of main_call3_v1 : StableHlo.TRef sig ⟨S32x3, .f32⟩) (.of main_v17 : StableHlo.TRef sig ⟨S32x3, .f32⟩) Host.sqrt ]
/-- Every operation of `postOps2` touches TensorCore references only. -/
theorem postOps2_sub : (postOps2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- No operation of `postOps2` allocates a buffer. -/
theorem postOps2_fresh : (postOps2 : List (HloOp τ sig (Elt F))).Forall fun op => op.fresh = ∅ :=
  StableHlo.forall_fresh_of_map rfl
/-- The buffers the operations of `postOps2` write, in order. -/
abbrev postOps2_W : List (Ref sig .tc) := [main_call3_v0, main_call3_cst, main_call3_v1, main_v17]
/-- `postOps2_W` holds every buffer `postOps2` writes. -/
theorem postOps2_writes : (postOps2 : List (HloOp τ sig (Elt F))).Forall fun op => op.writes ⊆ (postOps2_W.map (Proc.devRef (τ := τ) .tc)).toFinset :=
  StableHlo.forall_writes_sub_of_map rfl

/-- A stretch of 11 host operations, in order. -/
abbrev postOps3 : List (HloOp τ sig (Elt F)) :=
  [ StableHlo.unary main_v16 main_v18 (broadcastInDim S32x1 ![0] bcast_S32_S32x1_0 : (⟨S32, .f32⟩ : BufTy).Contents (Elt F) → (⟨S32x1, .f32⟩ : BufTy).Contents (Elt F)),
    StableHlo.unary main_v18 main_v19 (broadcastInDim S32x128 ![0, 1] bcast_S32x1_S32x128_0_1 : (⟨S32x1, .f32⟩ : BufTy).Contents (Elt F) → (⟨S32x128, .f32⟩ : BufTy).Contents (Elt F)),
    StableHlo.binary main_v8 main_v19 main_v20 (Host.divf : (⟨S32x128, .f32⟩ : BufTy).Contents (Elt F) → (⟨S32x128, .f32⟩ : BufTy).Contents (Elt F) → (⟨S32x128, .f32⟩ : BufTy).Contents (Elt F)),
    StableHlo.unary main_v17 main_v21 (broadcastInDim S32x3x1 ![0, 1] bcast_S32x3_S32x3x1_0_1 : (⟨S32x3, .f32⟩ : BufTy).Contents (Elt F) → (⟨S32x3x1, .f32⟩ : BufTy).Contents (Elt F)),
    StableHlo.unary main_v21 main_v22 (broadcastInDim S32x3x128 ![0, 1, 2] bcast_S32x3x1_S32x3x128_0_1_2 : (⟨S32x3x1, .f32⟩ : BufTy).Contents (Elt F) → (⟨S32x3x128, .f32⟩ : BufTy).Contents (Elt F)),
    StableHlo.binary main_v9 main_v22 main_v23 (Host.divf : (⟨S32x3x128, .f32⟩ : BufTy).Contents (Elt F) → (⟨S32x3x128, .f32⟩ : BufTy).Contents (Elt F) → (⟨S32x3x128, .f32⟩ : BufTy).Contents (Elt F)),
    StableHlo.unary main_v20 main_v24 (broadcastInDim S32x1x128 ![0, 2] bcast_S32x128_S32x1x128_0_2 : (⟨S32x128, .f32⟩ : BufTy).Contents (Elt F) → (⟨S32x1x128, .f32⟩ : BufTy).Contents (Elt F)),
    StableHlo.unary main_v24 main_v25 (broadcastInDim S32x3x128 ![0, 1, 2] bcast_S32x1x128_S32x3x128_0_1_2 : (⟨S32x1x128, .f32⟩ : BufTy).Contents (Elt F) → (⟨S32x3x128, .f32⟩ : BufTy).Contents (Elt F)),
    StableHlo.binary main_v25 main_v23 main_v26 (mulf : (⟨S32x3x128, .f32⟩ : BufTy).Contents (Elt F) → (⟨S32x3x128, .f32⟩ : BufTy).Contents (Elt F) → (⟨S32x3x128, .f32⟩ : BufTy).Contents (Elt F)),
    StableHlo.nullary main_cst_1 (constant S_ .f32 0x00000000#32),
    StableHlo.binary main_v26 main_cst_1 main_v27 ((fun x v => Host.reduceAdd x v reducesTo_S32x3x128_S32x3_d2 h_S_) : (⟨S32x3x128, .f32⟩ : BufTy).Contents (Elt F) → (⟨S_, .f32⟩ : BufTy).Contents (Elt F) → (⟨S32x3, .f32⟩ : BufTy).Contents (Elt F)) ]
/-- Every operation of `postOps3` touches TensorCore references only. -/
theorem postOps3_sub : (postOps3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub ..⟩
/-- No operation of `postOps3` allocates a buffer. -/
theorem postOps3_fresh : (postOps3 : List (HloOp τ sig (Elt F))).Forall fun op => op.fresh = ∅ :=
  StableHlo.forall_fresh_of_map rfl
/-- The buffers the operations of `postOps3` write, in order. -/
abbrev postOps3_W : List (Ref sig .tc) := [main_v18, main_v19, main_v20, main_v21, main_v22, main_v23, main_v24, main_v25, main_v26, main_cst_1, main_v27]
/-- `postOps3_W` holds every buffer `postOps3` writes. -/
theorem postOps3_writes : (postOps3 : List (HloOp τ sig (Elt F))).Forall fun op => op.writes ⊆ (postOps3_W.map (Proc.devRef (τ := τ) .tc)).toFinset :=
  StableHlo.forall_writes_sub_of_map rfl

/-- The operations of the call of @norm_1, in order. -/
abbrev postOps4 : List (HloOp τ sig (Elt F)) :=
  [ StableHlo.TRef.binary (.of main_v24 : StableHlo.TRef sig ⟨S32x1x128, .f32⟩) (.of main_v24 : StableHlo.TRef sig ⟨S32x1x128, .f32⟩) (.of main_call4_v0 : StableHlo.TRef sig ⟨S32x1x128, .f32⟩) mulf,
    StableHlo.TRef.nullary (.of main_call4_cst : StableHlo.TRef sig ⟨S_, .f32⟩) (constant S_ .f32 0x00000000#32),
    StableHlo.TRef.binary (.of main_call4_v0 : StableHlo.TRef sig ⟨S32x1x128, .f32⟩) (.of main_call4_cst : StableHlo.TRef sig ⟨S_, .f32⟩) (.of main_call4_v1 : StableHlo.TRef sig ⟨S32x1, .f32⟩) (fun x v => Host.reduceAdd x v reducesTo_S32x1x128_S32x1_d2 h_S_),
    StableHlo.TRef.unary (.of main_call4_v1 : StableHlo.TRef sig ⟨S32x1, .f32⟩) (.of main_v28 : StableHlo.TRef sig ⟨S32x1, .f32⟩) Host.sqrt ]
/-- Every operation of `postOps4` touches TensorCore references only. -/
theorem postOps4_sub : (postOps4 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- No operation of `postOps4` allocates a buffer. -/
theorem postOps4_fresh : (postOps4 : List (HloOp τ sig (Elt F))).Forall fun op => op.fresh = ∅ :=
  StableHlo.forall_fresh_of_map rfl
/-- The buffers the operations of `postOps4` write, in order. -/
abbrev postOps4_W : List (Ref sig .tc) := [main_call4_v0, main_call4_cst, main_call4_v1, main_v28]
/-- `postOps4_W` holds every buffer `postOps4` writes. -/
theorem postOps4_writes : (postOps4 : List (HloOp τ sig (Elt F))).Forall fun op => op.writes ⊆ (postOps4_W.map (Proc.devRef (τ := τ) .tc)).toFinset :=
  StableHlo.forall_writes_sub_of_map rfl

/-- The operations of the call of @norm_0, in order. -/
abbrev postOps5 : List (HloOp τ sig (Elt F)) :=
  [ StableHlo.TRef.binary (.of main_v23 : StableHlo.TRef sig ⟨S32x3x128, .f32⟩) (.of main_v23 : StableHlo.TRef sig ⟨S32x3x128, .f32⟩) (.of main_call5_v0 : StableHlo.TRef sig ⟨S32x3x128, .f32⟩) mulf,
    StableHlo.TRef.nullary (.of main_call5_cst : StableHlo.TRef sig ⟨S_, .f32⟩) (constant S_ .f32 0x00000000#32),
    StableHlo.TRef.binary (.of main_call5_v0 : StableHlo.TRef sig ⟨S32x3x128, .f32⟩) (.of main_call5_cst : StableHlo.TRef sig ⟨S_, .f32⟩) (.of main_call5_v1 : StableHlo.TRef sig ⟨S32x3, .f32⟩) (fun x v => Host.reduceAdd x v reducesTo_S32x3x128_S32x3_d2 h_S_),
    StableHlo.TRef.unary (.of main_call5_v1 : StableHlo.TRef sig ⟨S32x3, .f32⟩) (.of main_v29 : StableHlo.TRef sig ⟨S32x3, .f32⟩) Host.sqrt ]
/-- Every operation of `postOps5` touches TensorCore references only. -/
theorem postOps5_sub : (postOps5 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
/-- No operation of `postOps5` allocates a buffer. -/
theorem postOps5_fresh : (postOps5 : List (HloOp τ sig (Elt F))).Forall fun op => op.fresh = ∅ :=
  StableHlo.forall_fresh_of_map rfl
/-- The buffers the operations of `postOps5` write, in order. -/
abbrev postOps5_W : List (Ref sig .tc) := [main_call5_v0, main_call5_cst, main_call5_v1, main_v29]
/-- `postOps5_W` holds every buffer `postOps5` writes. -/
theorem postOps5_writes : (postOps5 : List (HloOp τ sig (Elt F))).Forall fun op => op.writes ⊆ (postOps5_W.map (Proc.devRef (τ := τ) .tc)).toFinset :=
  StableHlo.forall_writes_sub_of_map rfl

/-- A stretch of 20 host operations, in order. -/
abbrev postOps6 : List (HloOp τ sig (Elt F)) :=
  [ StableHlo.unary main_v28 main_v30 (broadcastInDim S32x3 ![0, 1] bcast_S32x1_S32x3_0_1 : (⟨S32x1, .f32⟩ : BufTy).Contents (Elt F) → (⟨S32x3, .f32⟩ : BufTy).Contents (Elt F)),
    StableHlo.binary main_v30 main_v29 main_v31 (mulf : (⟨S32x3, .f32⟩ : BufTy).Contents (Elt F) → (⟨S32x3, .f32⟩ : BufTy).Contents (Elt F) → (⟨S32x3, .f32⟩ : BufTy).Contents (Elt F)),
    StableHlo.nullary main_cst_2 (constant S_ .f32 0x322BCC77#32),
    StableHlo.unary main_cst_2 main_v32 (broadcastInDim S32x3 ![] bcast_S_S32x3 : (⟨S_, .f32⟩ : BufTy).Contents (Elt F) → (⟨S32x3, .f32⟩ : BufTy).Contents (Elt F)),
    StableHlo.binary main_v31 main_v32 main_v33 (maximumf : (⟨S32x3, .f32⟩ : BufTy).Contents (Elt F) → (⟨S32x3, .f32⟩ : BufTy).Contents (Elt F) → (⟨S32x3, .f32⟩ : BufTy).Contents (Elt F)),
    StableHlo.binary main_v27 main_v33 main_v34 (Host.divf : (⟨S32x3, .f32⟩ : BufTy).Contents (Elt F) → (⟨S32x3, .f32⟩ : BufTy).Contents (Elt F) → (⟨S32x3, .f32⟩ : BufTy).Contents (Elt F)),
    StableHlo.nullary main_cst_3 (constant S_ .f32 0x3F800000#32),
    StableHlo.unary main_cst_3 main_v35 (broadcastInDim S32x3 ![] bcast_S_S32x3 : (⟨S_, .f32⟩ : BufTy).Contents (Elt F) → (⟨S32x3, .f32⟩ : BufTy).Contents (Elt F)),
    StableHlo.binary main_v35 main_v34 main_v36 (subf : (⟨S32x3, .f32⟩ : BufTy).Contents (Elt F) → (⟨S32x3, .f32⟩ : BufTy).Contents (Elt F) → (⟨S32x3, .f32⟩ : BufTy).Contents (Elt F)),
    StableHlo.binary main_v36 main_v15 main_v37 (Host.divf : (⟨S32x3, .f32⟩ : BufTy).Contents (Elt F) → (⟨S32x3, .f32⟩ : BufTy).Contents (Elt F) → (⟨S32x3, .f32⟩ : BufTy).Contents (Elt F)),
    StableHlo.nullary main_cst_4 (constant S_ .f32 0x3D4CCCCD#32),
    StableHlo.unary main_cst_4 main_v38 (broadcastInDim S32x3 ![] bcast_S_S32x3 : (⟨S_, .f32⟩ : BufTy).Contents (Elt F) → (⟨S32x3, .f32⟩ : BufTy).Contents (Elt F)),
    StableHlo.binary main_v37 main_v38 main_v39 (subf : (⟨S32x3, .f32⟩ : BufTy).Contents (Elt F) → (⟨S32x3, .f32⟩ : BufTy).Contents (Elt F) → (⟨S32x3, .f32⟩ : BufTy).Contents (Elt F)),
    StableHlo.nullary main_cst_5 (constant S_ .f32 0x00000000#32),
    StableHlo.unary main_cst_5 main_v40 (broadcastInDim S32x3 ![] bcast_S_S32x3 : (⟨S_, .f32⟩ : BufTy).Contents (Elt F) → (⟨S32x3, .f32⟩ : BufTy).Contents (Elt F)),
    StableHlo.binary main_v39 main_v40 main_v41 (maximumf : (⟨S32x3, .f32⟩ : BufTy).Contents (Elt F) → (⟨S32x3, .f32⟩ : BufTy).Contents (Elt F) → (⟨S32x3, .f32⟩ : BufTy).Contents (Elt F)),
    StableHlo.unary main_v5 main_v42 (broadcastInDim S32x1x1024 ![0, 2] bcast_S32x1024_S32x1x1024_0_2 : (⟨S32x1024, .f32⟩ : BufTy).Contents (Elt F) → (⟨S32x1x1024, .f32⟩ : BufTy).Contents (Elt F)),
    StableHlo.unary main_v42 main_v43 (broadcastInDim S32x3x1024 ![0, 1, 2] bcast_S32x1x1024_S32x3x1024_0_1_2 : (⟨S32x1x1024, .f32⟩ : BufTy).Contents (Elt F) → (⟨S32x3x1024, .f32⟩ : BufTy).Contents (Elt F)),
    StableHlo.binary main_v6 main_v43 main_v44 (cmpf .oeq : (⟨S32x3x1024, .f32⟩ : BufTy).Contents (Elt F) → (⟨S32x3x1024, .f32⟩ : BufTy).Contents (Elt F) → (⟨S32x3x1024, .i1⟩ : BufTy).Contents (Elt F)),
    StableHlo.nullary main_c_6 (constantI S_ 1 1#1) ]
/-- Every operation of `postOps6` touches TensorCore references only. -/
theorem postOps6_sub : (postOps6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩
/-- No operation of `postOps6` allocates a buffer. -/
theorem postOps6_fresh : (postOps6 : List (HloOp τ sig (Elt F))).Forall fun op => op.fresh = ∅ :=
  StableHlo.forall_fresh_of_map rfl
/-- The buffers the operations of `postOps6` write, in order. -/
abbrev postOps6_W : List (Ref sig .tc) := [main_v30, main_v31, main_cst_2, main_v32, main_v33, main_v34, main_cst_3, main_v35, main_v36, main_v37, main_cst_4, main_v38, main_v39, main_cst_5, main_v40, main_v41, main_v42, main_v43, main_v44, main_c_6]
/-- `postOps6_W` holds every buffer `postOps6` writes. -/
theorem postOps6_writes : (postOps6 : List (HloOp τ sig (Elt F))).Forall fun op => op.writes ⊆ (postOps6_W.map (Proc.devRef (τ := τ) .tc)).toFinset :=
  StableHlo.forall_writes_sub_of_map rfl

/-- A stretch of 2 host operations, in order. -/
abbrev postOps7 : List (HloOp τ sig (Elt F)) :=
  [ StableHlo.binary main_v44 main_c_6 main_v45 ((fun x v => Host.reduce IntOp.andi x v reducesTo_S32x3x1024_S32x3_d2 h_S_) : (⟨S32x3x1024, .i1⟩ : BufTy).Contents (Elt F) → (⟨S_, .i1⟩ : BufTy).Contents (Elt F) → (⟨S32x3, .i1⟩ : BufTy).Contents (Elt F)),
    StableHlo.nullary main_cst_7 (constant S_ .f32 0x00000000#32) ]
/-- Every operation of `postOps7` touches TensorCore references only. -/
theorem postOps7_sub : (postOps7 : List (HloOp τ sig (Elt F))).Forall fun op => op.bufs ⊆ StableHlo.tcRefs τ sig :=
  ⟨StableHlo.binary_bufs_sub .., StableHlo.nullary_bufs_sub ..⟩
/-- No operation of `postOps7` allocates a buffer. -/
theorem postOps7_fresh : (postOps7 : List (HloOp τ sig (Elt F))).Forall fun op => op.fresh = ∅ :=
  StableHlo.forall_fresh_of_map rfl
/-- The buffers the operations of `postOps7` write, in order. -/
abbrev postOps7_W : List (Ref sig .tc) := [main_v45, main_cst_7]
/-- `postOps7_W` holds every buffer `postOps7` writes. -/
theorem postOps7_writes : (postOps7 : List (HloOp τ sig (Elt F))).Forall fun op => op.writes ⊆ (postOps7_W.map (Proc.devRef (τ := τ) .tc)).toFinset :=
  StableHlo.forall_writes_sub_of_map rfl

/-- The operations of the call of @where, in order. -/
abbrev postOps8 : List (HloOp τ sig (Elt F)) :=
  [ StableHlo.TRef.unary (.of main_cst_7 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S32x3, .f32⟩) (broadcastInDim S32x3 ![] bcast_S_S32x3),
    StableHlo.TRef.ternary (.of main_v45 : StableHlo.TRef sig ⟨S32x3, .i1⟩) (.of main_call6_v1 : StableHlo.TRef sig ⟨S32x3, .f32⟩) (.of main_v41 : StableHlo.TRef sig ⟨S32x3, .f32⟩) (.of main_v46 : StableHlo.TRef sig ⟨S32x3, .f32⟩) select ]
/-- Every operation of `postOps8` touches TensorCore references only. -/
theorem postOps8_sub : (postOps8 : List (HloOp τ sig (Elt F))).Forall fun op => op.bufs ⊆ StableHlo.tcRefs τ sig :=
  ⟨StableHlo.unary_bufs_sub .., StableHlo.unary_bufs_sub .., StableHlo.ternary_bufs_sub ..⟩
/-- No operation of `postOps8` allocates a buffer. -/
theorem postOps8_fresh : (postOps8 : List (HloOp τ sig (Elt F))).Forall fun op => op.fresh = ∅ :=
  StableHlo.forall_fresh_of_map rfl
/-- The buffers the operations of `postOps8` write, in order. -/
abbrev postOps8_W : List (Ref sig .tc) := [main_call6_v0, main_call6_v1, main_v46]
/-- `postOps8_W` holds every buffer `postOps8` writes. -/
theorem postOps8_writes : (postOps8 : List (HloOp τ sig (Elt F))).Forall fun op => op.writes ⊆ (postOps8_W.map (Proc.devRef (τ := τ) .tc)).toFinset :=
  StableHlo.forall_writes_sub_of_map rfl

set_option maxHeartbeats 40000000 in
/-- A stretch of 56 host operations, in order. -/
abbrev postOps9 : List (HloOp τ sig (Elt F)) :=
  ( StableHlo.nullary main_cst_8 (constant S_ .f32 0x00000000#32)
  :: StableHlo.binary main_v46 main_cst_8 main_v47 ((fun x v => Host.reduceAdd x v reducesTo_S32x3_S_d0_1 h_S_) : (⟨S32x3, .f32⟩ : BufTy).Contents (Elt F) → (⟨S_, .f32⟩ : BufTy).Contents (Elt F) → (⟨S_, .f32⟩ : BufTy).Contents (Elt F))
  :: StableHlo.nullary main_cst_9 (constant S_ .f32 0x42C00000#32)
  :: StableHlo.binary main_v47 main_cst_9 main_v48 (Host.divf : (⟨S_, .f32⟩ : BufTy).Contents (Elt F) → (⟨S_, .f32⟩ : BufTy).Contents (Elt F) → (⟨S_, .f32⟩ : BufTy).Contents (Elt F))
  :: StableHlo.unary main_arg2 main_v49 ((extractStridedSlice S1 ![0] · slices_S32_S1_0) : (⟨S32, .i32⟩ : BufTy).Contents (Elt F) → (⟨S1, .i32⟩ : BufTy).Contents (Elt F))
  :: StableHlo.reshape main_v49 main_v50 (rfl : (.i32 : EltTy) = .i32) shapeCasts_S1_S_
  :: StableHlo.nullary main_c_10 (constantI S_ 32 0#32)
  :: StableHlo.binary main_v50 main_c_10 main_v51 (cmpi .slt : (⟨S_, .i32⟩ : BufTy).Contents (Elt F) → (⟨S_, .i32⟩ : BufTy).Contents (Elt F) → (⟨S_, .i1⟩ : BufTy).Contents (Elt F))
  :: StableHlo.nullary main_c_11 (constantI S_ 32 100000#32)
  :: StableHlo.binary main_v50 main_c_11 main_v52 (addi : (⟨S_, .i32⟩ : BufTy).Contents (Elt F) → (⟨S_, .i32⟩ : BufTy).Contents (Elt F) → (⟨S_, .i32⟩ : BufTy).Contents (Elt F))
  :: StableHlo.ternary main_v51 main_v52 main_v50 main_v53 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_12 (constantI S_ 32 0#32)
  :: StableHlo.nullary main_c_13 (constantI S_ 32 0#32)
  :: StableHlo.binary main_c_12 main_c_13 main_v54 (cmpi .slt : (⟨S_, .i32⟩ : BufTy).Contents (Elt F) → (⟨S_, .i32⟩ : BufTy).Contents (Elt F) → (⟨S_, .i1⟩ : BufTy).Contents (Elt F))
  :: StableHlo.nullary main_c_14 (constantI S_ 32 0#32)
  :: StableHlo.nullary main_c_15 (constantI S_ 32 4#32)
  :: StableHlo.binary main_c_14 main_c_15 main_v55 (addi : (⟨S_, .i32⟩ : BufTy).Contents (Elt F) → (⟨S_, .i32⟩ : BufTy).Contents (Elt F) → (⟨S_, .i32⟩ : BufTy).Contents (Elt F))
  :: StableHlo.nullary main_c_16 (constantI S_ 32 0#32)
  :: StableHlo.ternary main_v54 main_v55 main_c_16 main_v56 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_17 (constantI S_ 32 0#32)
  :: StableHlo.nullary main_c_18 (constantI S_ 32 0#32)
  :: StableHlo.binary main_c_17 main_c_18 main_v57 (cmpi .slt : (⟨S_, .i32⟩ : BufTy).Contents (Elt F) → (⟨S_, .i32⟩ : BufTy).Contents (Elt F) → (⟨S_, .i1⟩ : BufTy).Contents (Elt F))
  :: StableHlo.nullary main_c_19 (constantI S_ 32 0#32)
  :: StableHlo.nullary main_c_20 (constantI S_ 32 128#32)
  :: StableHlo.binary main_c_19 main_c_20 main_v58 (addi : (⟨S_, .i32⟩ : BufTy).Contents (Elt F) → (⟨S_, .i32⟩ : BufTy).Contents (Elt F) → (⟨S_, .i32⟩ : BufTy).Contents (Elt F))
  :: StableHlo.nullary main_c_21 (constantI S_ 32 0#32)
  :: StableHlo.ternary main_v57 main_v58 main_c_21 main_v59 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v1_4 ![main_v53, main_v56, main_v59] ⟨S_, .i32⟩ main_v60 ((fun x i => Host.dynamicSlice S1x4x128 x (fun k => (i k (Shape.Idx.first h_S_)).toInt) sliceFits_S100000x4x128_S1x4x128) : (⟨S100000x4x128, .f32⟩ : BufTy).Contents (Elt F) → (Fin 3 → (⟨S_, .i32⟩ : BufTy).Contents (Elt F)) → (⟨S1x4x128, .f32⟩ : BufTy).Contents (Elt F))
  :: StableHlo.reshape main_v60 main_v61 (rfl : (.f32 : EltTy) = .f32) shapeCasts_S1x4x128_S4x128
  :: StableHlo.nullary main_cst_22 (constant S_ .f32 0x00000000#32)
  :: StableHlo.binary main_v61 main_cst_22 main_v62 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F))
  :: StableHlo.nullary main_cst_23 (constant S_ .f32 0x00000000#32)
  :: StableHlo.binary main_cst_23 main_v62 main_v63 (mulf : (⟨S_, .f32⟩ : BufTy).Contents (Elt F) → (⟨S_, .f32⟩ : BufTy).Contents (Elt F) → (⟨S_, .f32⟩ : BufTy).Contents (Elt F))
  :: StableHlo.binary main_v48 main_v63 main_v64 (addf : (⟨S_, .f32⟩ : BufTy).Contents (Elt F) → (⟨S_, .f32⟩ : BufTy).Contents (Elt F) → (⟨S_, .f32⟩ : BufTy).Contents (Elt F))
  :: StableHlo.unary main_arg2 main_v65 ((extractStridedSlice S1 ![0] · slices_S32_S1_0) : (⟨S32, .i32⟩ : BufTy).Contents (Elt F) → (⟨S1, .i32⟩ : BufTy).Contents (Elt F))
  :: StableHlo.reshape main_v65 main_v66 (rfl : (.i32 : EltTy) = .i32) shapeCasts_S1_S_
  :: StableHlo.nullary main_c_24 (constantI S_ 32 0#32)
  :: StableHlo.binary main_v66 main_c_24 main_v67 (cmpi .slt : (⟨S_, .i32⟩ : BufTy).Contents (Elt F) → (⟨S_, .i32⟩ : BufTy).Contents (Elt F) → (⟨S_, .i1⟩ : BufTy).Contents (Elt F))
  :: StableHlo.nullary main_c_25 (constantI S_ 32 100000#32)
  :: StableHlo.binary main_v66 main_c_25 main_v68 (addi : (⟨S_, .i32⟩ : BufTy).Contents (Elt F) → (⟨S_, .i32⟩ : BufTy).Contents (Elt F) → (⟨S_, .i32⟩ : BufTy).Contents (Elt F))
  :: StableHlo.ternary main_v67 main_v68 main_v66 main_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_26 (constantI S_ 32 0#32)
  :: StableHlo.nullary main_c_27 (constantI S_ 32 0#32)
  :: StableHlo.binary main_c_26 main_c_27 main_v70 (cmpi .slt : (⟨S_, .i32⟩ : BufTy).Contents (Elt F) → (⟨S_, .i32⟩ : BufTy).Contents (Elt F) → (⟨S_, .i1⟩ : BufTy).Contents (Elt F))
  :: StableHlo.nullary main_c_28 (constantI S_ 32 0#32)
  :: StableHlo.nullary main_c_29 (constantI S_ 32 4#32)
  :: StableHlo.binary main_c_28 main_c_29 main_v71 (addi : (⟨S_, .i32⟩ : BufTy).Contents (Elt F) → (⟨S_, .i32⟩ : BufTy).Contents (Elt F) → (⟨S_, .i32⟩ : BufTy).Contents (Elt F))
  :: StableHlo.nullary main_c_30 (constantI S_ 32 0#32)
  :: StableHlo.ternary main_v70 main_v71 main_c_30 main_v72 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v3 ![main_v69, main_v72] ⟨S_, .i32⟩ main_v73 ((fun x i => Host.dynamicSlice S1x4 x (fun k => (i k (Shape.Idx.first h_S_)).toInt) sliceFits_S100000x4_S1x4) : (⟨S100000x4, .f32⟩ : BufTy).Contents (Elt F) → (Fin 2 → (⟨S_, .i32⟩ : BufTy).Contents (Elt F)) → (⟨S1x4, .f32⟩ : BufTy).Contents (Elt F))
  :: StableHlo.reshape main_v73 main_v74 (rfl : (.f32 : EltTy) = .f32) shapeCasts_S1x4_S4
  :: StableHlo.nullary main_cst_31 (constant S_ .f32 0x00000000#32)
  :: StableHlo.binary main_v74 main_cst_31 main_v75 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F))
  :: StableHlo.nullary main_cst_32 (constant S_ .f32 0x00000000#32)
  :: StableHlo.binary main_cst_32 main_v75 main_v76 (mulf : (⟨S_, .f32⟩ : BufTy).Contents (Elt F) → (⟨S_, .f32⟩ : BufTy).Contents (Elt F) → (⟨S_, .f32⟩ : BufTy).Contents (Elt F))
  :: StableHlo.binary main_v64 main_v76 main_v77 (addf : (⟨S_, .f32⟩ : BufTy).Contents (Elt F) → (⟨S_, .f32⟩ : BufTy).Contents (Elt F) → (⟨S_, .f32⟩ : BufTy).Contents (Elt F))
  :: [] )
set_option maxHeartbeats 40000000 in
/-- Every operation of `postOps9` touches TensorCore references only. -/
theorem postOps9_sub : (postOps9 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.binary_bufs_sub ..⟩
/-- No operation of `postOps9` allocates a buffer. -/
theorem postOps9_fresh : (postOps9 : List (HloOp τ sig (Elt F))).Forall fun op => op.fresh = ∅ :=
  StableHlo.forall_fresh_of_map rfl
/-- The buffers the operations of `postOps9` write, in order. -/
abbrev postOps9_W : List (Ref sig .tc) := [main_cst_8, main_v47, main_cst_9, main_v48, main_v49, main_v50, main_c_10, main_v51, main_c_11, main_v52, main_v53, main_c_12, main_c_13, main_v54, main_c_14, main_c_15, main_v55, main_c_16, main_v56, main_c_17, main_c_18, main_v57, main_c_19, main_c_20, main_v58, main_c_21, main_v59, main_v60, main_v61, main_cst_22, main_v62, main_cst_23, main_v63, main_v64, main_v65, main_v66, main_c_24, main_v67, main_c_25, main_v68, main_v69, main_c_26, main_c_27, main_v70, main_c_28, main_c_29, main_v71, main_c_30, main_v72, main_v73, main_v74, main_cst_31, main_v75, main_cst_32, main_v76, main_v77]
/-- `postOps9_W` holds every buffer `postOps9` writes. -/
theorem postOps9_writes : (postOps9 : List (HloOp τ sig (Elt F))).Forall fun op => op.writes ⊆ (postOps9_W.map (Proc.devRef (τ := τ) .tc)).toFinset :=
  StableHlo.forall_writes_sub_of_map rfl

/-- The operations of the call of @dynamic_index_in_dim, in order. -/
abbrev bodyOps0 : List (HloOp τ sig (Elt F)) :=
  [ StableHlo.TRef.unaryIndexed (.of main_v1_0 : StableHlo.TRef sig ⟨S32, .i32⟩) ![(.of main_v1_3 : StableHlo.TRef sig ⟨S_, .i32⟩)] (.of main_while0b_call0_v0 : StableHlo.TRef sig ⟨S1, .i32⟩) (fun x i => Host.dynamicSlice S1 x (fun k => (i k (Shape.Idx.first h_S_)).toInt) sliceFits_S32_S1),
    StableHlo.TRef.reshape (.of main_while0b_call0_v0 : StableHlo.TRef sig ⟨S1, .i32⟩) (.of main_while0b_v78 : StableHlo.TRef sig ⟨S_, .i32⟩) (rfl : (.i32 : EltTy) = .i32) shapeCasts_S1_S_ ]
/-- Every operation of `bodyOps0` touches TensorCore references only. -/
theorem bodyOps0_sub : (bodyOps0 : List (HloOp τ sig (Elt F))).Forall fun op => op.bufs ⊆ StableHlo.tcRefs τ sig :=
  ⟨StableHlo.unaryIndexed_bufs_sub .., StableHlo.reshape_bufs_sub ..⟩
/-- No operation of `bodyOps0` allocates a buffer. -/
theorem bodyOps0_fresh : (bodyOps0 : List (HloOp τ sig (Elt F))).Forall fun op => op.fresh = ∅ :=
  StableHlo.forall_fresh_of_map rfl
/-- The buffers the operations of `bodyOps0` write, in order. -/
abbrev bodyOps0_W : List (Ref sig .tc) := [main_while0b_call0_v0, main_while0b_v78]
/-- `bodyOps0_W` holds every buffer `bodyOps0` writes. -/
theorem bodyOps0_writes : (bodyOps0 : List (HloOp τ sig (Elt F))).Forall fun op => op.writes ⊆ (bodyOps0_W.map (Proc.devRef (τ := τ) .tc)).toFinset :=
  StableHlo.forall_writes_sub_of_map rfl

/-- A stretch of 22 host operations, in order. -/
abbrev bodyOps1 : List (HloOp τ sig (Elt F)) :=
  [ StableHlo.nullary main_while0b_c_38 (constantI S_ 32 0#32),
    StableHlo.binary main_while0b_v78 main_while0b_c_38 main_while0b_v79 (cmpi .slt : (⟨S_, .i32⟩ : BufTy).Contents (Elt F) → (⟨S_, .i32⟩ : BufTy).Contents (Elt F) → (⟨S_, .i1⟩ : BufTy).Contents (Elt F)),
    StableHlo.nullary main_while0b_c_39 (constantI S_ 32 32#32),
    StableHlo.binary main_while0b_v78 main_while0b_c_39 main_while0b_v80 (addi : (⟨S_, .i32⟩ : BufTy).Contents (Elt F) → (⟨S_, .i32⟩ : BufTy).Contents (Elt F) → (⟨S_, .i32⟩ : BufTy).Contents (Elt F)),
    StableHlo.ternary main_while0b_v79 main_while0b_v80 main_while0b_v78 main_while0b_v81 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v1_1 ![main_while0b_v81] ⟨S_, .i32⟩ main_while0b_v82 ((fun x i => Host.dynamicSlice S1 x (fun k => (i k (Shape.Idx.first h_S_)).toInt) sliceFits_S32_S1) : (⟨S32, .i32⟩ : BufTy).Contents (Elt F) → (Fin 1 → (⟨S_, .i32⟩ : BufTy).Contents (Elt F)) → (⟨S1, .i32⟩ : BufTy).Contents (Elt F)),
    StableHlo.reshape main_while0b_v82 main_while0b_v83 (rfl : (.i32 : EltTy) = .i32) shapeCasts_S1_S_,
    StableHlo.nullary main_while0b_c_40 (constantI S_ 32 0#32),
    StableHlo.binary main_while0b_v83 main_while0b_c_40 main_while0b_v84 (cmpi .slt : (⟨S_, .i32⟩ : BufTy).Contents (Elt F) → (⟨S_, .i32⟩ : BufTy).Contents (Elt F) → (⟨S_, .i1⟩ : BufTy).Contents (Elt F)),
    StableHlo.nullary main_while0b_c_41 (constantI S_ 32 100000#32),
    StableHlo.binary main_while0b_v83 main_while0b_c_41 main_while0b_v85 (addi : (⟨S_, .i32⟩ : BufTy).Contents (Elt F) → (⟨S_, .i32⟩ : BufTy).Contents (Elt F) → (⟨S_, .i32⟩ : BufTy).Contents (Elt F)),
    StableHlo.ternary main_while0b_v84 main_while0b_v85 main_while0b_v83 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_42 (constantI S_ 32 0#32),
    StableHlo.nullary main_while0b_c_43 (constantI S_ 32 0#32),
    StableHlo.binary main_while0b_c_42 main_while0b_c_43 main_while0b_v87 (cmpi .slt : (⟨S_, .i32⟩ : BufTy).Contents (Elt F) → (⟨S_, .i32⟩ : BufTy).Contents (Elt F) → (⟨S_, .i1⟩ : BufTy).Contents (Elt F)),
    StableHlo.nullary main_while0b_c_44 (constantI S_ 32 0#32),
    StableHlo.nullary main_while0b_c_45 (constantI S_ 32 4#32),
    StableHlo.binary main_while0b_c_44 main_while0b_c_45 main_while0b_v88 (addi : (⟨S_, .i32⟩ : BufTy).Contents (Elt F) → (⟨S_, .i32⟩ : BufTy).Contents (Elt F) → (⟨S_, .i32⟩ : BufTy).Contents (Elt F)),
    StableHlo.nullary main_while0b_c_46 (constantI S_ 32 0#32),
    StableHlo.ternary main_while0b_v87 main_while0b_v88 main_while0b_c_46 main_while0b_v89 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v1_5 ![main_while0b_v86, main_while0b_v89] ⟨S_, .i32⟩ main_while0b_v90 ((fun x i => Host.dynamicSlice S1x4 x (fun k => (i k (Shape.Idx.first h_S_)).toInt) sliceFits_S100000x4_S1x4) : (⟨S100000x4, .f32⟩ : BufTy).Contents (Elt F) → (Fin 2 → (⟨S_, .i32⟩ : BufTy).Contents (Elt F)) → (⟨S1x4, .f32⟩ : BufTy).Contents (Elt F)),
    StableHlo.reshape main_while0b_v90 main_while0b_v91 (rfl : (.f32 : EltTy) = .f32) shapeCasts_S1x4_S4 ]
/-- Every operation of `bodyOps1` touches TensorCore references only. -/
theorem bodyOps1_sub : (bodyOps1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub ..⟩
/-- No operation of `bodyOps1` allocates a buffer. -/
theorem bodyOps1_fresh : (bodyOps1 : List (HloOp τ sig (Elt F))).Forall fun op => op.fresh = ∅ :=
  StableHlo.forall_fresh_of_map rfl
/-- The buffers the operations of `bodyOps1` write, in order. -/
abbrev bodyOps1_W : List (Ref sig .tc) := [main_while0b_c_38, main_while0b_v79, main_while0b_c_39, main_while0b_v80, main_while0b_v81, main_while0b_v82, main_while0b_v83, main_while0b_c_40, main_while0b_v84, main_while0b_c_41, main_while0b_v85, main_while0b_v86, main_while0b_c_42, main_while0b_c_43, main_while0b_v87, main_while0b_c_44, main_while0b_c_45, main_while0b_v88, main_while0b_c_46, main_while0b_v89, main_while0b_v90, main_while0b_v91]
/-- `bodyOps1_W` holds every buffer `bodyOps1` writes. -/
theorem bodyOps1_writes : (bodyOps1 : List (HloOp τ sig (Elt F))).Forall fun op => op.writes ⊆ (bodyOps1_W.map (Proc.devRef (τ := τ) .tc)).toFinset :=
  StableHlo.forall_writes_sub_of_map rfl

/-- The operations of the call of @argmin, in order. -/
abbrev bodyOps2 : List (HloOp τ sig (Elt F)) :=
  [ StableHlo.TRef.nullary (.of main_while0b_call1_v0 : StableHlo.TRef sig ⟨S4, .i32⟩) (iotaInDim S4 32 0),
    StableHlo.TRef.nullary (.of main_while0b_call1_cst : StableHlo.TRef sig ⟨S_, .f32⟩) (constant S_ .f32 0x7F800000#32),
    StableHlo.TRef.nullary (.of main_while0b_call1_c : StableHlo.TRef sig ⟨S_, .i32⟩) (constantI S_ 32 0#32),
    StableHlo.TRef.quaternary (.of main_while0b_v91 : StableHlo.TRef sig ⟨S4, .f32⟩) (.of main_while0b_call1_v0 : StableHlo.TRef sig ⟨S4, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmin_f32_i32 x y u v reducesTo_S4_S_d0 h_S_ j).1),
    StableHlo.TRef.quaternary (.of main_while0b_v91 : StableHlo.TRef sig ⟨S4, .f32⟩) (.of main_while0b_call1_v0 : StableHlo.TRef sig ⟨S4, .i32⟩) (.of main_while0b_call1_cst : StableHlo.TRef sig ⟨S_, .f32⟩) (.of main_while0b_call1_c : StableHlo.TRef sig ⟨S_, .i32⟩) (.of main_while0b_v92 : StableHlo.TRef sig ⟨S_, .i32⟩) (fun x y u v j => (Host.argReduce reducer_argmin_f32_i32 x y u v reducesTo_S4_S_d0 h_S_ j).2) ]
/-- Every operation of `bodyOps2` touches TensorCore references only. -/
theorem bodyOps2_sub : (bodyOps2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- No operation of `bodyOps2` allocates a buffer. -/
theorem bodyOps2_fresh : (bodyOps2 : List (HloOp τ sig (Elt F))).Forall fun op => op.fresh = ∅ :=
  StableHlo.forall_fresh_of_map rfl
/-- The buffers the operations of `bodyOps2` write, in order. -/
abbrev bodyOps2_W : List (Ref sig .tc) := [main_while0b_call1_v0, main_while0b_call1_cst, main_while0b_call1_c, main_while0b_call1_v1_0, main_while0b_v92]
/-- `bodyOps2_W` holds every buffer `bodyOps2` writes. -/
theorem bodyOps2_writes : (bodyOps2 : List (HloOp τ sig (Elt F))).Forall fun op => op.writes ⊆ (bodyOps2_W.map (Proc.devRef (τ := τ) .tc)).toFinset :=
  StableHlo.forall_writes_sub_of_map rfl

set_option maxHeartbeats 40000000 in
/-- A stretch of 36 host operations, in order. -/
abbrev bodyOps3 : List (HloOp τ sig (Elt F)) :=
  ( StableHlo.nullary main_while0b_c_47 (constantI S_ 32 0#32)
  :: StableHlo.binary main_while0b_v78 main_while0b_c_47 main_while0b_v93 (cmpi .slt : (⟨S_, .i32⟩ : BufTy).Contents (Elt F) → (⟨S_, .i32⟩ : BufTy).Contents (Elt F) → (⟨S_, .i1⟩ : BufTy).Contents (Elt F))
  :: StableHlo.nullary main_while0b_c_48 (constantI S_ 32 32#32)
  :: StableHlo.binary main_while0b_v78 main_while0b_c_48 main_while0b_v94 (addi : (⟨S_, .i32⟩ : BufTy).Contents (Elt F) → (⟨S_, .i32⟩ : BufTy).Contents (Elt F) → (⟨S_, .i32⟩ : BufTy).Contents (Elt F))
  :: StableHlo.ternary main_while0b_v93 main_while0b_v94 main_while0b_v78 main_while0b_v95 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_49 (constantI S_ 32 0#32)
  :: StableHlo.nullary main_while0b_c_50 (constantI S_ 32 0#32)
  :: StableHlo.binary main_while0b_c_49 main_while0b_c_50 main_while0b_v96 (cmpi .slt : (⟨S_, .i32⟩ : BufTy).Contents (Elt F) → (⟨S_, .i32⟩ : BufTy).Contents (Elt F) → (⟨S_, .i1⟩ : BufTy).Contents (Elt F))
  :: StableHlo.nullary main_while0b_c_51 (constantI S_ 32 0#32)
  :: StableHlo.nullary main_while0b_c_52 (constantI S_ 32 4#32)
  :: StableHlo.binary main_while0b_c_51 main_while0b_c_52 main_while0b_v97 (addi : (⟨S_, .i32⟩ : BufTy).Contents (Elt F) → (⟨S_, .i32⟩ : BufTy).Contents (Elt F) → (⟨S_, .i32⟩ : BufTy).Contents (Elt F))
  :: StableHlo.nullary main_while0b_c_53 (constantI S_ 32 0#32)
  :: StableHlo.ternary main_while0b_v96 main_while0b_v97 main_while0b_c_53 main_while0b_v98 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_54 (constantI S_ 32 0#32)
  :: StableHlo.nullary main_while0b_c_55 (constantI S_ 32 0#32)
  :: StableHlo.binary main_while0b_c_54 main_while0b_c_55 main_while0b_v99 (cmpi .slt : (⟨S_, .i32⟩ : BufTy).Contents (Elt F) → (⟨S_, .i32⟩ : BufTy).Contents (Elt F) → (⟨S_, .i1⟩ : BufTy).Contents (Elt F))
  :: StableHlo.nullary main_while0b_c_56 (constantI S_ 32 0#32)
  :: StableHlo.nullary main_while0b_c_57 (constantI S_ 32 128#32)
  :: StableHlo.binary main_while0b_c_56 main_while0b_c_57 main_while0b_v100 (addi : (⟨S_, .i32⟩ : BufTy).Contents (Elt F) → (⟨S_, .i32⟩ : BufTy).Contents (Elt F) → (⟨S_, .i32⟩ : BufTy).Contents (Elt F))
  :: StableHlo.nullary main_while0b_c_58 (constantI S_ 32 0#32)
  :: StableHlo.ternary main_while0b_v99 main_while0b_v100 main_while0b_c_58 main_while0b_v101 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v1_2 ![main_while0b_v95, main_while0b_v98, main_while0b_v101] ⟨S_, .i32⟩ main_while0b_v102 ((fun x i => Host.dynamicSlice S1x1x128 x (fun k => (i k (Shape.Idx.first h_S_)).toInt) sliceFits_S32x4x128_S1x1x128) : (⟨S32x4x128, .f32⟩ : BufTy).Contents (Elt F) → (Fin 3 → (⟨S_, .i32⟩ : BufTy).Contents (Elt F)) → (⟨S1x1x128, .f32⟩ : BufTy).Contents (Elt F))
  :: StableHlo.reshape main_while0b_v102 main_while0b_v103 (rfl : (.f32 : EltTy) = .f32) shapeCasts_S1x1x128_S128
  :: StableHlo.nullary main_while0b_c_59 (constantI S_ 32 0#32)
  :: StableHlo.binary main_while0b_v83 main_while0b_c_59 main_while0b_v104 (cmpi .slt : (⟨S_, .i32⟩ : BufTy).Contents (Elt F) → (⟨S_, .i32⟩ : BufTy).Contents (Elt F) → (⟨S_, .i1⟩ : BufTy).Contents (Elt F))
  :: StableHlo.nullary main_while0b_c_60 (constantI S_ 32 100000#32)
  :: StableHlo.binary main_while0b_v83 main_while0b_c_60 main_while0b_v105 (addi : (⟨S_, .i32⟩ : BufTy).Contents (Elt F) → (⟨S_, .i32⟩ : BufTy).Contents (Elt F) → (⟨S_, .i32⟩ : BufTy).Contents (Elt F))
  :: StableHlo.ternary main_while0b_v104 main_while0b_v105 main_while0b_v83 main_while0b_v106 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_61 (constantI S_ 32 0#32)
  :: StableHlo.binary main_while0b_v92 main_while0b_c_61 main_while0b_v107 (cmpi .slt : (⟨S_, .i32⟩ : BufTy).Contents (Elt F) → (⟨S_, .i32⟩ : BufTy).Contents (Elt F) → (⟨S_, .i1⟩ : BufTy).Contents (Elt F))
  :: StableHlo.nullary main_while0b_c_62 (constantI S_ 32 4#32)
  :: StableHlo.binary main_while0b_v92 main_while0b_c_62 main_while0b_v108 (addi : (⟨S_, .i32⟩ : BufTy).Contents (Elt F) → (⟨S_, .i32⟩ : BufTy).Contents (Elt F) → (⟨S_, .i32⟩ : BufTy).Contents (Elt F))
  :: StableHlo.ternary main_while0b_v107 main_while0b_v108 main_while0b_v92 main_while0b_v109 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v106 main_while0b_v110 (broadcastInDim S1 ![] bcast_S_S1 : (⟨S_, .i32⟩ : BufTy).Contents (Elt F) → (⟨S1, .i32⟩ : BufTy).Contents (Elt F))
  :: StableHlo.unary main_while0b_v109 main_while0b_v111 (broadcastInDim S1 ![] bcast_S_S1 : (⟨S_, .i32⟩ : BufTy).Contents (Elt F) → (⟨S1, .i32⟩ : BufTy).Contents (Elt F))
  :: StableHlo.binary main_while0b_v110 main_while0b_v111 main_while0b_v112 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: [] )
set_option maxHeartbeats 40000000 in
/-- Every operation of `bodyOps3` touches TensorCore references only. -/
theorem bodyOps3_sub : (bodyOps3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.binary_bufs_sub ..⟩
/-- No operation of `bodyOps3` allocates a buffer. -/
theorem bodyOps3_fresh : (bodyOps3 : List (HloOp τ sig (Elt F))).Forall fun op => op.fresh = ∅ :=
  StableHlo.forall_fresh_of_map rfl
/-- The buffers the operations of `bodyOps3` write, in order. -/
abbrev bodyOps3_W : List (Ref sig .tc) := [main_while0b_c_47, main_while0b_v93, main_while0b_c_48, main_while0b_v94, main_while0b_v95, main_while0b_c_49, main_while0b_c_50, main_while0b_v96, main_while0b_c_51, main_while0b_c_52, main_while0b_v97, main_while0b_c_53, main_while0b_v98, main_while0b_c_54, main_while0b_c_55, main_while0b_v99, main_while0b_c_56, main_while0b_c_57, main_while0b_v100, main_while0b_c_58, main_while0b_v101, main_while0b_v102, main_while0b_v103, main_while0b_c_59, main_while0b_v104, main_while0b_c_60, main_while0b_v105, main_while0b_v106, main_while0b_c_61, main_while0b_v107, main_while0b_c_62, main_while0b_v108, main_while0b_v109, main_while0b_v110, main_while0b_v111, main_while0b_v112]
/-- `bodyOps3_W` holds every buffer `bodyOps3` writes. -/
theorem bodyOps3_writes : (bodyOps3 : List (HloOp τ sig (Elt F))).Forall fun op => op.writes ⊆ (bodyOps3_W.map (Proc.devRef (τ := τ) .tc)).toFinset :=
  StableHlo.forall_writes_sub_of_map rfl

/-- A stretch of 16 host operations, in order. -/
abbrev bodyOps4 : List (HloOp τ sig (Elt F)) :=
  [ StableHlo.ternary main_v1_4 main_while0b_v112 main_while0b_v103 main_while0b_v113 ((fun x i u => Host.scatter scatter_S100000x4x128_S2_S128_0_01_01_0 (fun _ b => b) x i u) : (⟨S100000x4x128, .f32⟩ : BufTy).Contents (Elt F) → (⟨S2, .i32⟩ : BufTy).Contents (Elt F) → (⟨S128, .f32⟩ : BufTy).Contents (Elt F) → (⟨S100000x4x128, .f32⟩ : BufTy).Contents (Elt F)),
    StableHlo.nullary main_while0b_c_63 (constantI S_ 32 0#32),
    StableHlo.binary main_while0b_v83 main_while0b_c_63 main_while0b_v114 (cmpi .slt : (⟨S_, .i32⟩ : BufTy).Contents (Elt F) → (⟨S_, .i32⟩ : BufTy).Contents (Elt F) → (⟨S_, .i1⟩ : BufTy).Contents (Elt F)),
    StableHlo.nullary main_while0b_c_64 (constantI S_ 32 100000#32),
    StableHlo.binary main_while0b_v83 main_while0b_c_64 main_while0b_v115 (addi : (⟨S_, .i32⟩ : BufTy).Contents (Elt F) → (⟨S_, .i32⟩ : BufTy).Contents (Elt F) → (⟨S_, .i32⟩ : BufTy).Contents (Elt F)),
    StableHlo.ternary main_while0b_v114 main_while0b_v115 main_while0b_v83 main_while0b_v116 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_65 (constantI S_ 32 0#32),
    StableHlo.binary main_while0b_v92 main_while0b_c_65 main_while0b_v117 (cmpi .slt : (⟨S_, .i32⟩ : BufTy).Contents (Elt F) → (⟨S_, .i32⟩ : BufTy).Contents (Elt F) → (⟨S_, .i1⟩ : BufTy).Contents (Elt F)),
    StableHlo.nullary main_while0b_c_66 (constantI S_ 32 4#32),
    StableHlo.binary main_while0b_v92 main_while0b_c_66 main_while0b_v118 (addi : (⟨S_, .i32⟩ : BufTy).Contents (Elt F) → (⟨S_, .i32⟩ : BufTy).Contents (Elt F) → (⟨S_, .i32⟩ : BufTy).Contents (Elt F)),
    StableHlo.ternary main_while0b_v117 main_while0b_v118 main_while0b_v92 main_while0b_v119 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v116 main_while0b_v120 (broadcastInDim S1 ![] bcast_S_S1 : (⟨S_, .i32⟩ : BufTy).Contents (Elt F) → (⟨S1, .i32⟩ : BufTy).Contents (Elt F)),
    StableHlo.unary main_while0b_v119 main_while0b_v121 (broadcastInDim S1 ![] bcast_S_S1 : (⟨S_, .i32⟩ : BufTy).Contents (Elt F) → (⟨S1, .i32⟩ : BufTy).Contents (Elt F)),
    StableHlo.binary main_while0b_v120 main_while0b_v121 main_while0b_v122 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_while0b_cst_67 (constant S_ .f32 0x41200000#32),
    StableHlo.ternary main_v1_5 main_while0b_v122 main_while0b_cst_67 main_while0b_v123 ((fun x i u => Host.scatter scatter_S100000x4_S2_S__n_01_01_0 (fun _ b => b) x i u) : (⟨S100000x4, .f32⟩ : BufTy).Contents (Elt F) → (⟨S2, .i32⟩ : BufTy).Contents (Elt F) → (⟨S_, .f32⟩ : BufTy).Contents (Elt F) → (⟨S100000x4, .f32⟩ : BufTy).Contents (Elt F)) ]
/-- Every operation of `bodyOps4` touches TensorCore references only. -/
theorem bodyOps4_sub : (bodyOps4 : List (HloOp τ sig (Elt F))).Forall fun op => op.bufs ⊆ StableHlo.tcRefs τ sig :=
  ⟨StableHlo.ternary_bufs_sub .., StableHlo.nullary_bufs_sub .., StableHlo.binary_bufs_sub .., StableHlo.nullary_bufs_sub .., StableHlo.binary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.binary_bufs_sub .., StableHlo.nullary_bufs_sub .., StableHlo.ternary_bufs_sub ..⟩
/-- No operation of `bodyOps4` allocates a buffer. -/
theorem bodyOps4_fresh : (bodyOps4 : List (HloOp τ sig (Elt F))).Forall fun op => op.fresh = ∅ :=
  StableHlo.forall_fresh_of_map rfl
/-- The buffers the operations of `bodyOps4` write, in order. -/
abbrev bodyOps4_W : List (Ref sig .tc) := [main_while0b_v113, main_while0b_c_63, main_while0b_v114, main_while0b_c_64, main_while0b_v115, main_while0b_v116, main_while0b_c_65, main_while0b_v117, main_while0b_c_66, main_while0b_v118, main_while0b_v119, main_while0b_v120, main_while0b_v121, main_while0b_v122, main_while0b_cst_67, main_while0b_v123]
/-- `bodyOps4_W` holds every buffer `bodyOps4` writes. -/
theorem bodyOps4_writes : (bodyOps4 : List (HloOp τ sig (Elt F))).Forall fun op => op.writes ⊆ (bodyOps4_W.map (Proc.devRef (τ := τ) .tc)).toFinset :=
  StableHlo.forall_writes_sub_of_map rfl

/-- A stretch of 5 host operations, in order. -/
abbrev bodyOps5 : List (HloOp τ sig (Elt F)) :=
  [ StableHlo.nullary main_while0b_c_68 (constantI S_ 32 1#32),
    StableHlo.binary main_v1_3 main_while0b_c_68 main_while0b_v124 (addi : (⟨S_, .i32⟩ : BufTy).Contents (Elt F) → (⟨S_, .i32⟩ : BufTy).Contents (Elt F) → (⟨S_, .i32⟩ : BufTy).Contents (Elt F)),
    StableHlo.unary main_while0b_v124 main_v1_3 id,
    StableHlo.unary main_while0b_v113 main_v1_4 id,
    StableHlo.unary main_while0b_v123 main_v1_5 id ]
/-- Every operation of `bodyOps5` touches TensorCore references only. -/
theorem bodyOps5_sub : (bodyOps5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- No operation of `bodyOps5` allocates a buffer. -/
theorem bodyOps5_fresh : (bodyOps5 : List (HloOp τ sig (Elt F))).Forall fun op => op.fresh = ∅ :=
  StableHlo.forall_fresh_of_map rfl
/-- The buffers the operations of `bodyOps5` write, in order. -/
abbrev bodyOps5_W : List (Ref sig .tc) := [main_while0b_c_68, main_while0b_v124, main_v1_3, main_v1_4, main_v1_5]
/-- `bodyOps5_W` holds every buffer `bodyOps5` writes. -/
theorem bodyOps5_writes : (bodyOps5 : List (HloOp τ sig (Elt F))).Forall fun op => op.writes ⊆ (bodyOps5_W.map (Proc.devRef (τ := τ) .tc)).toFinset :=
  StableHlo.forall_writes_sub_of_map rfl

/-- The first window of @main is the chain of its items. -/
theorem main_part0_chain (c : Dev nD) : main_part0 (F := F) c = (Pipeline.chainK
  [ StableHlo.seq preOps0,
    HostLoop.enter 0,
    StableHlo.seq postOps0,
    StableHlo.seq postOps1,
    StableHlo.seq postOps2,
    StableHlo.seq postOps3,
    StableHlo.seq postOps4,
    StableHlo.seq postOps5 ]
  (StableHlo.seq postOps6) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, Pipeline.chainK_cons, StableHlo.chainK_seq_cons, Pipeline.chainK_cons, Pipeline.chainK_cons]
  chain_rfl

/-- The last window of @main is the chain of its items. -/
theorem main_part1_chain (c : Dev nD) : main_part1 (F := F) c = (Pipeline.chain
  [ StableHlo.seq postOps7,
    StableHlo.seq postOps8,
    StableHlo.seq postOps9 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

/-- @main is the chain of its items: the stretch before the loop, the loop, the stretches after it. -/
theorem main_chain (c : Dev nD) : main (F := F) c = (Pipeline.chain
  [ StableHlo.seq preOps0,
    HostLoop.enter 0,
    StableHlo.seq postOps0,
    StableHlo.seq postOps1,
    StableHlo.seq postOps2,
    StableHlo.seq postOps3,
    StableHlo.seq postOps4,
    StableHlo.seq postOps5,
    StableHlo.seq postOps6,
    StableHlo.seq postOps7,
    StableHlo.seq postOps8,
    StableHlo.seq postOps9 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- The first window of the loop's body is the chain of its items. -/
theorem body_part0_chain : main_while0_body_part0 (F := F) = (Pipeline.chainK
  [ StableHlo.seq bodyOps0,
    StableHlo.seq bodyOps1,
    StableHlo.seq bodyOps2 ]
  (StableHlo.seq bodyOps3) : Prog (TpuEff nD τ sig (Elt F) (HostLoop.Sig (Pipeline.Sig Λ₀ (Fin 0) fun p => (pcfgs (F := F) p).Adm) 1) .tc) PUnit) := by
  rewrite [Pipeline.chainK_cons, StableHlo.chainK_seq_cons, Pipeline.chainK_cons]
  chain_rfl

/-- The last window of the loop's body is the chain of its items. -/
theorem body_part1_chain : main_while0_body_part1 (F := F) = (Pipeline.chain
  [ StableHlo.seq bodyOps4,
    StableHlo.seq bodyOps5 ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- The loop's body is the chain of its stretches. -/
theorem body_chain : main_while0_body (F := F) = (Pipeline.chain
  [ StableHlo.seq bodyOps0,
    StableHlo.seq bodyOps1,
    StableHlo.seq bodyOps2,
    StableHlo.seq bodyOps3,
    StableHlo.seq bodyOps4,
    StableHlo.seq bodyOps5 ] : Prog (TpuEff nD τ sig (Elt F) (HostLoop.Sig (Pipeline.Sig Λ₀ (Fin 0) fun p => (pcfgs (F := F) p).Adm) 1) .tc) PUnit) := by
  show (main_while0_body_part0 (F := F) >>= fun _ => main_while0_body_part1 (F := F)) = _
  rewrite [body_part1_chain, body_part0_chain, Pipeline.chainK_bind_chain]
  chain_rfl

end Cert.ReferenceIdeal.Hand

end
-- ==== Proof.RefRun.lean ====
/-
  The reference program's run, at any float values: it is one counted host loop of 32 trips between straight-line stretches,
  so every weakly fair execution terminates with each buffer at the fold of the operations over the launch's contents
  (`run_fold`). No operation writes an argument (`run_args`), and the program has no semaphore, so its frame holds with every
  counter at zero (`frame`).
-/
module

public import proofs.«01_k».proof.Proof.RefOps
public import Idealize.ShloMosaic.Lib.Quiescent
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2048

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The loop condition's two operations: the bound 32, and the trip counter compared with it. -/
abbrev condOps : List (HloOp τ sig (Elt F)) :=
  [ StableHlo.nullary main_while0c_c_38 (constantI S_ 32 32#32),
    StableHlo.binary main_v1_3 main_while0c_c_38 main_while0c_v78 (cmpi .slt) ]
/-- The buffers the condition writes. -/
abbrev condOps_W : List (Ref sig .tc) := [main_while0c_c_38, main_while0c_v78]
/-- `condOps_W` holds every buffer the condition writes. -/
theorem condOps_writes : (condOps : List (HloOp τ sig (Elt F))).Forall fun op => op.writes ⊆ (condOps_W.map (Proc.devRef (τ := τ) .tc)).toFinset :=
  StableHlo.forall_writes_sub_of_map rfl

/-- @main's stretches before the loop. -/
abbrev preI : List (List (HloOp τ sig (Elt F))) := [preOps0]
/-- The loop body's stretches. -/
abbrev bodyI : List (List (HloOp τ sig (Elt F))) := [bodyOps0, bodyOps1, bodyOps2, bodyOps3, bodyOps4, bodyOps5]
/-- @main's stretches after the loop. -/
abbrev postI : List (List (HloOp τ sig (Elt F))) := [postOps0, postOps1, postOps2, postOps3, postOps4, postOps5, postOps6, postOps7, postOps8, postOps9]

/-- The stretches before the loop touch TensorCore references only and allocate nothing. -/
theorem plain_pre : Plain (preI (F := F)) := .cons preOps0_sub (hf := List.forall_iff_forall_mem.mp preOps0_fresh) (.nil)
/-- The body's stretches touch TensorCore references only and allocate nothing. -/
theorem plain_body : Plain (bodyI (F := F)) := .cons bodyOps0_sub (hf := List.forall_iff_forall_mem.mp bodyOps0_fresh) (.cons bodyOps1_sub (hf := List.forall_iff_forall_mem.mp bodyOps1_fresh) (.cons bodyOps2_sub (hf := List.forall_iff_forall_mem.mp bodyOps2_fresh) (.cons bodyOps3_sub (hf := List.forall_iff_forall_mem.mp bodyOps3_fresh) (.cons bodyOps4_sub (hf := List.forall_iff_forall_mem.mp bodyOps4_fresh) (.cons bodyOps5_sub (hf := List.forall_iff_forall_mem.mp bodyOps5_fresh) (.nil))))))
/-- The stretches after the loop touch TensorCore references only and allocate nothing. -/
theorem plain_post : Plain (postI (F := F)) := .cons postOps0_sub (hf := List.forall_iff_forall_mem.mp postOps0_fresh) (.cons postOps1_sub (hf := List.forall_iff_forall_mem.mp postOps1_fresh) (.cons postOps2_sub (hf := List.forall_iff_forall_mem.mp postOps2_fresh) (.cons postOps3_sub (hf := List.forall_iff_forall_mem.mp postOps3_fresh) (.cons postOps4_sub (hf := List.forall_iff_forall_mem.mp postOps4_fresh) (.cons postOps5_sub (hf := List.forall_iff_forall_mem.mp postOps5_fresh) (.cons postOps6_sub (hf := List.forall_iff_forall_mem.mp postOps6_fresh) (.cons postOps7_sub (hf := List.forall_iff_forall_mem.mp postOps7_fresh) (.cons postOps8_sub (hf := List.forall_iff_forall_mem.mp postOps8_fresh) (.cons postOps9_sub (hf := List.forall_iff_forall_mem.mp postOps9_fresh) (.nil))))))))))

/-- A buffer that no stretch of a list writes keeps its contents through the list. -/
theorem afterL_keep {r : Ref sig .tc} (h : r ∉ bodyOps0_W ++ bodyOps1_W ++ bodyOps2_W ++ bodyOps3_W ++ bodyOps4_W)
    (V : Valuation τ sig (Elt F)) :
    afterL [bodyOps0, bodyOps1, bodyOps2, bodyOps3, bodyOps4] V (Proc.devRef .tc r) = V (Proc.devRef .tc r) := by
  simp only [List.mem_append, not_or] at h
  obtain ⟨⟨⟨⟨h0, h1⟩, h2⟩, h3⟩, h4⟩ := h
  simp only [afterL_cons, afterL_nil]
  rw [after_of_writes_sub bodyOps4 _ bodyOps4_writes h4, after_of_writes_sub bodyOps3 _ bodyOps3_writes h3,
    after_of_writes_sub bodyOps2 _ bodyOps2_writes h2, after_of_writes_sub bodyOps1 _ bodyOps1_writes h1,
    after_of_writes_sub bodyOps0 _ bodyOps0_writes h0]

/-- A buffer the body does not write keeps its contents through a trip. -/
theorem body_keep {r : Ref sig .tc} (h : r ∉ bodyOps0_W ++ bodyOps1_W ++ bodyOps2_W ++ bodyOps3_W ++ bodyOps4_W)
    (h5 : r ∉ bodyOps5_W) (V : Valuation τ sig (Elt F)) :
    afterL bodyI V (Proc.devRef .tc r) = V (Proc.devRef .tc r) := by
  have e : afterL bodyI V = after bodyOps5 (afterL [bodyOps0, bodyOps1, bodyOps2, bodyOps3, bodyOps4] V) := rfl
  rw [e, after_of_writes_sub bodyOps5 _ bodyOps5_writes h5, afterL_keep h]

/-- A buffer the stretches after the loop do not write keeps its contents through them. -/
theorem post_keep {r : Ref sig .tc} (V : Valuation τ sig (Elt F))
    (h : r ∉ postOps0_W ++ postOps1_W ++ postOps2_W ++ postOps3_W ++ postOps4_W ++ postOps5_W ++ postOps6_W ++ postOps7_W ++ postOps8_W ++ postOps9_W) :
    afterL postI V (Proc.devRef .tc r) = V (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [afterL_cons, afterL_nil]
  rw [after_of_writes_sub postOps9 _ postOps9_writes h9,
    after_of_writes_sub postOps8 _ postOps8_writes h8,
    after_of_writes_sub postOps7 _ postOps7_writes h7,
    after_of_writes_sub postOps6 _ postOps6_writes h6,
    after_of_writes_sub postOps5 _ postOps5_writes h5,
    after_of_writes_sub postOps4 _ postOps4_writes h4,
    after_of_writes_sub postOps3 _ postOps3_writes h3,
    after_of_writes_sub postOps2 _ postOps2_writes h2,
    after_of_writes_sub postOps1 _ postOps1_writes h1,
    after_of_writes_sub postOps0 _ postOps0_writes h0]

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The body's last stretch leaves the trip counter one step on. -/
theorem last_counter (X : Valuation τ sig (Elt F)) :
    after bodyOps5 X (Proc.devRef .tc main_v1_3) = addi (X (Proc.devRef .tc main_v1_3)) (constantI S_ 32 1#32) := by
  after_results
  rfl

/-- The trip counter is 0 at the loop's entry. -/
theorem entry_counter (c : Dev nD) : entryContents preI m c (Proc.devRef .tc main_v1_3) = fun _ => (0#32 : BitVec 32) := by
  simp only [entryContents, afterL_cons, afterL_nil]
  after_reads_simp
  rfl

/-- Before the `k`-th condition the trip counter is the loop's induction variable at `k`. -/
theorem atK_counter (c : Dev nD) : ∀ k, atK m k c (Proc.devRef .tc main_v1_3) = fun _ => Scf.iv 0#32 1#32 k
  | 0 => by rw [show atK m 0 c = entryContents preI m c from rfl, entry_counter, Scf.iv_zero]
  | k + 1 => by
    have e : atK m (k + 1) c = after bodyOps5 (afterL [bodyOps0, bodyOps1, bodyOps2, bodyOps3, bodyOps4] (after condOps (atK m k c))) := rfl
    rw [e, last_counter, afterL_keep (by decide +kernel), after_of_writes_sub condOps _ condOps_writes (by decide +kernel),
      atK_counter c k, Scf.iv_succ]
    rfl

set_option backward.isDefEq.respectTransparency.types false in
/-- Run for the `k`-th time, the condition holds exactly when `k < 32`, and leaves the buffers at its two operations' fold. -/
theorem cond_spec : CondSpec (pcfgs (F := F)) defs₀ loops (main_while0_cond (F := F)) condOps bodyI (entryContents preI m) 32 := by
  intro k hk c bd
  have hctr := atK_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v1_3 HostLoop.idx0)
        (HloOp.result _ (atK m k c) main_while0c_c_38 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option maxRecDepth 100000 in
/-- Every weakly fair execution of the reference terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 32 m c (Proc.devRef .tc b)) :=
  run_loop (pcfgs (F := F)) defs₀ loops main 0 main_while0_cond main_while0_body rfl preI bodyI postI condOps plain_pre plain_body plain_post
    (fun c => by rw [main_chain]; rfl) (by rw [body_chain]; rfl) 32 m ρ (cond_spec m)

/-- A buffer that neither the stretch before the loop, nor the condition, nor the body writes is at every trip as the launch has it. -/
theorem atK_keep {r : Ref sig .tc} (hp : r ∉ preOps0_W) (hc : r ∉ condOps_W)
    (hb : r ∉ bodyOps0_W ++ bodyOps1_W ++ bodyOps2_W ++ bodyOps3_W ++ bodyOps4_W) (h5 : r ∉ bodyOps5_W) (c : Dev nD) :
    ∀ k, atK m k c (Proc.devRef .tc r) = m ((c.tc : Thread nD τ).loc r)
  | 0 => by
    have e : atK m 0 c = after preOps0 (launchContents m c) := rfl
    rw [e, after_of_writes_sub preOps0 _ preOps0_writes hp]
  | k + 1 => by
    have e : atK m (k + 1) c = afterL bodyI (after condOps (atK m k c)) := rfl
    rw [e, body_keep hb h5, after_of_writes_sub condOps _ condOps_writes hc, atK_keep hp hc hb h5 c k]

/-- A buffer that nothing before the last stretches writes is, as the loop ends, as the launch has it. -/
theorem exit_keep {r : Ref sig .tc} (hp : r ∉ preOps0_W) (hc : r ∉ condOps_W)
    (hb : r ∉ bodyOps0_W ++ bodyOps1_W ++ bodyOps2_W ++ bodyOps3_W ++ bodyOps4_W) (h5 : r ∉ bodyOps5_W) (c : Dev nD) :
    after condOps (atK m 32 c) (Proc.devRef .tc r) = m ((c.tc : Thread nD τ).loc r) := by
  rw [after_of_writes_sub condOps _ condOps_writes hc, atK_keep m hp hc hb h5 c 32]

/-- The arguments end as the launch has them. -/
theorem run_args : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
    (h c main_arg0 rfl).trans ((post_keep _ (by decide +kernel)).trans
      (exit_keep m (by decide +kernel) (by decide +kernel) (by decide +kernel) (by decide +kernel) c)),
    (h c main_arg1 rfl).trans ((post_keep _ (by decide +kernel)).trans
      (exit_keep m (by decide +kernel) (by decide +kernel) (by decide +kernel) (by decide +kernel) c)),
    (h c main_arg2 rfl).trans ((post_keep _ (by decide +kernel)).trans
      (exit_keep m (by decide +kernel) (by decide +kernel) (by decide +kernel) (by decide +kernel) c)),
    (h c main_arg3 rfl).trans ((post_keep _ (by decide +kernel)).trans
      (exit_keep m (by decide +kernel) (by decide +kernel) (by decide +kernel) (by decide +kernel) c)),
    (h c main_arg4 rfl).trans ((post_keep _ (by decide +kernel)).trans
      (exit_keep m (by decide +kernel) (by decide +kernel) (by decide +kernel) (by decide +kernel) c))⟩) (run_fold m ρ)

/-- The reference's frame: it terminates, its arguments end unchanged, and every semaphore counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨h, sem_eq_zero_of_no_sems rfl r.2⟩) (run_args m ρ)

end Cert.ReferenceIdeal.Hand

end
-- ==== Proof.RefLoss.lean ====
/-
  The reference's training loss as a composed term of its own operations, in named steps: the distances of the inputs, the
  normalized outputs, the cosine distances, the clamped penalties, and their mean over the rows whose inputs differ.
-/
module

public import proofs.«01_k».proof.Proof.RefRun
public import Idealize.ShloMosaic.Lib.Pointwise

@[expose] public section

set_option maxRecDepth 2048

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- The scalar zero the reference's sums start from. -/
abbrev zeroS : FVec F S_ .f32 := constant S_ .f32 0x00000000#32

/-- The three later rows of each input. -/
abbrev laterX (x : FVec F S32x4x1024 .f32) : FVec F S32x3x1024 .f32 :=
  extractStridedSlice S32x3x1024 ![0, 1, 0] x slices_S32x4x1024_S32x3x1024_0_1_0
/-- The first row of each input, once against each later row. -/
abbrev firstX (x : FVec F S32x4x1024 .f32) : FVec F S32x3x1024 .f32 :=
  broadcastInDim S32x3x1024 ![0, 1, 2] bcast_S32x1x1024_S32x3x1024_0_1_2
    (broadcastInDim S32x1x1024 ![0, 2] bcast_S32x1024_S32x1x1024_0_2
      (shapeCast S32x1024 (extractStridedSlice S32x1x1024 ![0, 0, 0] x slices_S32x4x1024_S32x1x1024_0_0_0)
        shapeCasts_S32x1x1024_S32x1024))
/-- The distance of each later row from the first. -/
def inDist (x : FVec F S32x4x1024 .f32) : FVec F S32x3 .f32 :=
  Host.sqrt (Host.reduceAdd (mulf (subf (laterX x) (firstX x)) (subf (laterX x) (firstX x))) zeroS
    reducesTo_S32x3x1024_S32x3_d2 h_S_)
/-- Whether each later row equals the first. -/
def sameX (x : FVec F S32x4x1024 .f32) : IVec S32x3 1 :=
  Host.reduce IntOp.andi (cmpf .oeq (laterX x) (firstX x)) (constantI S_ 1 1#1) reducesTo_S32x3x1024_S32x3_d2 h_S_

/-- The first row of each output. -/
abbrev firstE (e : FVec F S32x4x128 .f32) : FVec F S32x128 .f32 :=
  shapeCast S32x128 (extractStridedSlice S32x1x128 ![0, 0, 0] e slices_S32x4x128_S32x1x128_0_0_0) shapeCasts_S32x1x128_S32x128
/-- The three later rows of each output. -/
abbrev laterE (e : FVec F S32x4x128 .f32) : FVec F S32x3x128 .f32 :=
  extractStridedSlice S32x3x128 ![0, 1, 0] e slices_S32x4x128_S32x3x128_0_1_0
/-- The first row of each output over its length, as a row of one. -/
def unitFirst (e : FVec F S32x4x128 .f32) : FVec F S32x1x128 .f32 :=
  broadcastInDim S32x1x128 ![0, 2] bcast_S32x128_S32x1x128_0_2
    (Host.divf (firstE e) (broadcastInDim S32x128 ![0, 1] bcast_S32x1_S32x128_0_1 (broadcastInDim S32x1 ![0] bcast_S32_S32x1_0
      (Host.sqrt (Host.reduceAdd (mulf (firstE e) (firstE e)) zeroS reducesTo_S32x128_S32_d1 h_S_)))))
/-- The later rows of each output over their lengths. -/
def unitLater (e : FVec F S32x4x128 .f32) : FVec F S32x3x128 .f32 :=
  Host.divf (laterE e) (broadcastInDim S32x3x128 ![0, 1, 2] bcast_S32x3x1_S32x3x128_0_1_2
    (broadcastInDim S32x3x1 ![0, 1] bcast_S32x3_S32x3x1_0_1
      (Host.sqrt (Host.reduceAdd (mulf (laterE e) (laterE e)) zeroS reducesTo_S32x3x128_S32x3_d2 h_S_))))
/-- The cosine of each later row against the first, its denominator held away from zero. -/
def cosine (e : FVec F S32x4x128 .f32) : FVec F S32x3 .f32 :=
  Host.divf
    (Host.reduceAdd (mulf (broadcastInDim S32x3x128 ![0, 1, 2] bcast_S32x1x128_S32x3x128_0_1_2 (unitFirst e)) (unitLater e)) zeroS
      reducesTo_S32x3x128_S32x3_d2 h_S_)
    (maximumf
      (mulf (broadcastInDim S32x3 ![0, 1] bcast_S32x1_S32x3_0_1
          (Host.sqrt (Host.reduceAdd (mulf (unitFirst e) (unitFirst e)) zeroS reducesTo_S32x1x128_S32x1_d2 h_S_)))
        (Host.sqrt (Host.reduceAdd (mulf (unitLater e) (unitLater e)) zeroS reducesTo_S32x3x128_S32x3_d2 h_S_)))
      (broadcastInDim S32x3 ![] bcast_S_S32x3 (constant S_ .f32 0x322BCC77#32)))
/-- The penalty of each later row: the cosine distance over the inputs' distance, less the margin, at least zero. -/
def penalty (x : FVec F S32x4x1024 .f32) (e : FVec F S32x4x128 .f32) : FVec F S32x3 .f32 :=
  maximumf
    (subf (Host.divf (subf (broadcastInDim S32x3 ![] bcast_S_S32x3 (constant S_ .f32 0x3F800000#32)) (cosine e)) (inDist x))
      (broadcastInDim S32x3 ![] bcast_S_S32x3 (constant S_ .f32 0x3D4CCCCD#32)))
    (broadcastInDim S32x3 ![] bcast_S_S32x3 (constant S_ .f32 0x00000000#32))
/-- The penalties of the rows that differ from the first, zero elsewhere, averaged. -/
def loss (x : FVec F S32x4x1024 .f32) (e : FVec F S32x4x128 .f32) : FVec F S_ .f32 :=
  Host.divf
    (Host.reduceAdd (select (sameX x) (broadcastInDim S32x3 ![] bcast_S_S32x3 (id zeroS)) (penalty x e)) zeroS
      reducesTo_S32x3_S_d0_1 h_S_)
    (constant S_ .f32 0x42C00000#32)

/-- The first instance's slot, a negative one counted from the end. -/
abbrev slot (y : IVec S32 32) : IVec S_ 32 :=
  select (cmpi .slt (shapeCast S_ (extractStridedSlice S1 ![0] y slices_S32_S1_0) shapeCasts_S1_S_) (constantI S_ 32 0#32))
    (addi (shapeCast S_ (extractStridedSlice S1 ![0] y slices_S32_S1_0) shapeCasts_S1_S_) (constantI S_ 32 100000#32))
    (shapeCast S_ (extractStridedSlice S1 ![0] y slices_S32_S1_0) shapeCasts_S1_S_)
/-- A start at zero on an axis of `n` places, as the reference computes it. -/
abbrev start0 (n : BitVec 32) : IVec S_ 32 :=
  select (cmpi .slt (constantI S_ 32 0#32) (constantI S_ 32 0#32)) (addi (constantI S_ 32 0#32) (constantI S_ 32 n)) (constantI S_ 32 0#32)
/-- The sum of the first instance's slot of the bank `b`. -/
def bankSum (b : FVec F S100000x4x128 .f32) (y : IVec S32 32) : FVec F S_ .f32 :=
  Host.reduceAdd (shapeCast S4x128 (Host.dynamicSlice S1x4x128 b
      (fun k => (((![slot y, start0 4#32, start0 128#32] : Fin 3 → IVec S_ 32)) k (Shape.Idx.first h_S_)).toInt)
      sliceFits_S100000x4x128_S1x4x128) shapeCasts_S1x4x128_S4x128) zeroS reducesTo_S4x128_S_d0_1 h_S_
/-- The sum of the first instance's validity marks `v`, each less one. -/
def marksSum (v : FVec F S100000x4 .f32) (y : IVec S32 32) : FVec F S_ .f32 :=
  Host.reduceAdd (shapeCast S4 (Host.dynamicSlice S1x4
      (subf v (broadcastInDim S100000x4 ![] bcast_S_S100000x4 (constant S_ .f32 0x3F800000#32)))
      (fun k => (((![slot y, start0 4#32] : Fin 2 → IVec S_ 32)) k (Shape.Idx.first h_S_)).toInt)
      sliceFits_S100000x4_S1x4) shapeCasts_S1x4_S4) zeroS reducesTo_S4_S_d0 h_S_

set_option maxRecDepth 100000 in
set_option maxHeartbeats 2000000 in
/-- The result after the last stretches: the loss, plus zero times the sums over the bank and the marks the loop leaves. -/
theorem post_v77 (V : Valuation τ sig (Elt F)) :
    afterL postI V (no_index (Proc.devRef .tc main_v77))
      = addf (addf (loss (V (Proc.devRef .tc main_arg0)) (V (Proc.devRef .tc main_arg1)))
          (mulf zeroS (bankSum (V (Proc.devRef .tc main_v1_4)) (V (Proc.devRef .tc main_arg2)))))
          (mulf zeroS (marksSum (V (Proc.devRef .tc main_v1_5)) (V (Proc.devRef .tc main_arg2)))) := by
  unfold loss penalty cosine unitFirst unitLater inDist sameX bankSum marksSum
  simp only [postI, afterL_cons, afterL_nil, postOps0, postOps1, postOps2, postOps3, postOps4, postOps5, postOps6, postOps7, postOps8, postOps9]
  after_results_entrywise []

end Cert.ReferenceIdeal.Hand

end
-- ==== Proof.LossEq.lean ====
/-
  The kernel's loss and the reference's, as functions of the two float inputs over the extended reals, are one function;
  and the reference's run ends with it.
-/
module

public import proofs.«01_k».proof.Proof.RefLoss
public import proofs.«01_k».proof.Proof.Gen.KernelIdeal.Frame
public import Idealize.ShloMosaic.Lib.Claim

@[expose] public section

set_option maxRecDepth 2048

noncomputable section

namespace Cert.LossEq

open Idealize.ShloMosaic
open Cert.KernelIdeal Cert.KernelIdeal.Gen
open Cert.ReferenceIdeal.Hand (loss penalty cosine unitFirst unitLater inDist sameX)

/-- The kernel's penalty of a row is the reference's: the same sums, quotients and roots over the same elements. -/
theorem penalty_eq (x : FVec Ideal S32x4x1024 .f32) (e : FVec Ideal S32x4x128 .f32) (b : Fin 32) (k : Fin 3) :
    k0_pay5 x e (ix2 b k) = penalty x e (ix2 b k) := by
  pointwise [k0_pay5, k0_pay3, k0_pay4, penalty, cosine, unitFirst, unitLater, inDist]

/-- The conjunction of finitely many one-bit tests is 1 exactly when every test holds. -/
theorem fold_andi {ι : Type} [DecidableEq ι] (s : Finset ι) (p : ι → Prop) [DecidablePred p] :
    s.fold IntOp.andi (1#1) (fun i => BitVec.ofBool (decide (p i))) = 1#1 ↔ ∀ i ∈ s, p i := by
  induction s using Finset.induction_on with
  | empty => simp
  | insert a s ha ih =>
    rw [Finset.fold_insert ha, IntOp.andi_eq_one, ih, Finset.forall_mem_insert]
    by_cases h : p a <;> simp [h]

/-- The least of finitely many marks, each 1 or 0, is positive exactly when every mark is 1. -/
theorem fold_min {ι : Type} (s : Finset ι) (p : ι → Prop) [DecidablePred p] :
    0 < s.fold min (Ideal.ofBits FTy.f32 0x7F800000#32) (fun i => if p i then (1 : EReal) else 0) ↔ ∀ i ∈ s, p i := by
  rw [Finset.lt_fold_min]
  constructor
  · intro h i hi
    by_contra hp
    have := h.2 i hi
    rw [if_neg hp] at this
    exact lt_irrefl _ this
  · intro h
    refine ⟨by simp [Ideal.ofBits, Ideal.ieee], fun i hi => ?_⟩
    rw [if_pos (h i hi)]
    exact zero_lt_one

/-- The kernel's mean of the penalties over the rows that differ from the first is the reference's. -/
theorem loss_eq (x : Vec Ideal S32x4x1024 .f32) (e : Vec Ideal S32x4x128 .f32) :
    k0_pay7 (k0_pay5 x e) (k0_pay6 x) (Scalar.ofBits .f32 0x3F800000#32) = loss x e ix0 := by
  pointwise [k0_pay7, k0_pay6, k0_pay3, k0_pay4, loss, sameX]
  refine congrArg (Ideal.div · _) (Finset.sum_congr rfl fun b _ => Finset.sum_congr rfl fun k _ => ?_)
  have hmin := fold_min Finset.univ fun j : Fin 1024 => x (ix3 b ⟨1 + (k : ℕ), by omega⟩ j) = x (ix3 b 0 j)
  have hand := fold_andi Finset.univ fun j : Fin 1024 => x (ix3 b ⟨1 + (k : ℕ), by omega⟩ j) = x (ix3 b 0 j)
  have hzero : (0 : EReal) = (Cert.ReferenceIdeal.Hand.zeroS : FVec Ideal Cert.ReferenceIdeal.S_ .f32) ix0 := Ideal.ofBits_zero_f32.symm
  exact (if_congr (hmin.trans hand.symm) hzero (penalty_eq x e b k)).trans rfl

/-- What the kernel stores: its loss and two terms with a factor of zero. -/
theorem stored_eq (l : EReal) (n : BitVec 32) (s : FVec Ideal S1x1 .f32) (j : S1x1.Idx) : k0_pay1 (F := Ideal) l n s j = l := by
  pointwise [k0_pay1]
  rw [zero_mul, zero_mul, add_zero, add_zero]

/-- The reference's result: its loss and two terms with a factor of zero. -/
theorem summed_eq (l s t : FVec Ideal Cert.ReferenceIdeal.S_ .f32) :
    addf (addf l (mulf Cert.ReferenceIdeal.Hand.zeroS s)) (mulf Cert.ReferenceIdeal.Hand.zeroS t) = l := by
  funext j
  pointwise
  rw [zero_mul, zero_mul, add_zero, add_zero]

end Cert.LossEq

namespace Cert.ReferenceIdeal.Hand

open Cert.ReferenceIdeal Cert.ReferenceIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The reference's result when it ends is the loss of the two float inputs as launched. -/
theorem final_eq (c : Dev nD) : finalContents condOps preI bodyI postI 32 m c (Proc.devRef .tc main_v77)
    = loss (F := Ideal) (m ((c.tc : Thread nD τ).loc main_arg0)) (m ((c.tc : Thread nD τ).loc main_arg1)) := by
  refine (post_v77 (after condOps (atK m 32 c))).trans ?_
  rw [Cert.LossEq.summed_eq,
    exit_keep m (r := main_arg0) (by decide +kernel) (by decide +kernel) (by decide +kernel) (by decide +kernel) c,
    exit_keep m (r := main_arg1) (by decide +kernel) (by decide +kernel) (by decide +kernel) (by decide +kernel) c]

/-- The reference's run: it terminates with the loss of the two float inputs in its result, and its arguments unchanged. -/
theorem run : θ_run (defs (F := Ideal)) (onTc (τ := τ) (main (F := Ideal))) ⟨m, fun _ => 0, ρ⟩ (fun r => ∀ c : Dev nD,
      r.2.mem ((c.tc : Thread nD τ).loc main_v77)
        = loss (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c main_v77 rfl).trans (final_eq m c), h.2 c⟩) (θ_run_and (run_fold m ρ) (run_args m ρ))

end Cert.ReferenceIdeal.Hand

end
-- ==== Proof.KernelRun.lean ====
/-
  The kernel's run over the extended reals: its result is the reference's loss of the two float inputs.
-/
module

public import proofs.«01_k».proof.Proof.LossEq
public import Idealize.ShloMosaic.Lib.Claim
public import Idealize.ShloMosaic.Lib.Pipeline.ValueKit

@[expose] public section

set_option maxRecDepth 2048

noncomputable section

namespace Cert.KernelIdeal.Hand

open Idealize.ShloMosaic Idealize.ShloMosaic.TcCoe Idealize.ShloMosaic.Tactic
open Idealize.ShloMosaic.StableHlo
open Cert.KernelIdeal Cert.KernelIdeal.Gen
open Idealize.SL Idealize.SL.Sem

variable (m : (ℓ : Loc nD τ sig) → Buf (Elt Ideal) ℓ) (ρ : Dev nD → PrngReg)

/-- The one point's block of the inputs' array starts at its first element. -/
theorem index0 (t : Fin grid0.N) : win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0) t
/-- The one point's block of the outputs' array starts at its first element. -/
theorem index1 (t : Fin grid0.N) : win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0) t

/-- The body reads the inputs' array whole, as launched. -/
theorem block0 (c : Dev nD) (t : Fin cfg0.N) : iblk m c 0 t = m ((c.tc : Thread nD τ).loc main_arg0) := by
  funext i
  blk_ext! [iblk, V_main_arg0, index0 t]
/-- The body reads the outputs' array whole, as launched. -/
theorem block1 (c : Dev nD) (t : Fin cfg0.N) : iblk m c 1 t = m ((c.tc : Thread nD τ).loc main_arg1) := by
  funext i
  blk_ext! [iblk, V_main_arg1, index1 t]

/-- The output window's array after the run holds, at its one place, the loss of the two float inputs. -/
theorem out_eq (c : Dev nD) : (dats m 0 c).arrAt 3 (cfgs 0).N
    = fun _ => Cert.ReferenceIdeal.Hand.loss (F := Ideal) (m ((c.tc : Thread nD τ).loc main_arg0)) (m ((c.tc : Thread nD τ).loc main_arg1)) ix0 := by
  refine (dats m 0 c).arrAt_eq_of_covers 3 _ (by decide +kernel) fun t hf y => ?_
  blk_simp
  rw [after0_3]
  frame_out
  rw [block0, block1]
  exact (Cert.LossEq.stored_eq _ _ _ y).trans (Cert.LossEq.loss_eq _ _)

/-- The host's reshape after the launch hands on the window's one element. -/
theorem tail_eq (c : Dev nD) : Pipeline.afterTail₀ cfgs (dats m) 0 (V0 m) [hostOps1] c main_v2
    = Cert.ReferenceIdeal.Hand.loss (F := Ideal) (m ((c.tc : Thread nD τ).loc main_arg0)) (m ((c.tc : Thread nD τ).loc main_arg1)) := by
  have h : Pipeline.withArrays (cfgs 0).spec c (V0 m c) (fun w => (dats m 0 c).arrAt w (cfgs 0).N) (Proc.devRef .tc main_v1) = _ :=
    (Pipeline.withArrays_arr (cfgs 0).spec (by decide +kernel) c (V0 m c) (fun w => (dats m 0 c).arrAt w (cfgs 0).N) 3).trans (out_eq m c)
  unfold Pipeline.afterTail₀
  simp only [hostOps1, List.flatten_cons, List.flatten_nil, List.append_nil, List.cons_append, List.nil_append]
  after_results
  rw [h]
  funext i
  exact congrArg (Cert.ReferenceIdeal.Hand.loss (F := Ideal) _ _) (funext fun a => a.elim0)

/-- The kernel's run: it terminates with the loss of the two float inputs in its result, and its arguments unchanged. -/
theorem run : θ_run (defs (F := Ideal)) (onTc (τ := τ) (main (F := Ideal))) ⟨m, fun _ => 0, ρ⟩ (fun r => ∀ c : Dev nD,
      r.2.mem ((c.tc : Thread nD τ).loc main_v2)
        = Cert.ReferenceIdeal.Hand.loss (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun r h c => ⟨((h.1 c).2 main_v2 (Pipeline.mem_restRefs_of main_v2 (by decide) (by decide))).trans (tail_eq m c),
    h.2.1 c⟩) (θ_run_and (Gen.run_main m ρ) (Gen.frame m ρ))

end Cert.KernelIdeal.Hand

end
-- ==== Proof.lean ====
/-
  The certificate's claim: the three programs terminate leaving every argument and semaphore counter as launched, the
  idealized kernel is the kernel, and over the extended reals the kernel and the reference end with the same result. The
  reference's run is in Proof/RefRun, its loss in Proof/RefLoss, the equality of the two losses in Proof/LossEq and the
  kernel's run in Proof/KernelRun.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- Both programs end with the reference's loss of the two float inputs, which they share. -/
theorem algebraic : algebraic_KernelIdeal_ReferenceIdeal (hKernelIdeal := Cert.KernelIdeal.Gen.facts)
    (hReferenceIdeal := Cert.ReferenceIdeal.Gen.facts) := by
  intro m g m' g' _ hagree
  refine ⟨fun c => _, Cert.KernelIdeal.Hand.run m g, ?_⟩
  refine (θ_run _ _ _).mono (fun r h c => ⟨(h c).1.trans ?_, (h c).2⟩) (Cert.ReferenceIdeal.Hand.run m' g')
  rw [(hagree c).1, (hagree c).2.1]

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Hand.frame m ρ, trivial, algebraic⟩

end Cert.Proof

end
